-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_routing_finite [hPre_routing_finite : Cert.Pre_routing_finite.Facts] (m : (ℓ : Loc Cert.KernelIdeal.nD Cert.KernelIdeal.τ Cert.KernelIdeal.sig) → Buf (Elt Ideal) ℓ) : Prop :=
  ∀ c : Dev Cert.KernelIdeal.nD,
    (Cert.Pre_routing_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_routing_finite [hPre_routing_finite : Cert.Pre_routing_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_routing_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_routing_finite [hKernelIdeal : Cert.KernelIdeal.Facts] [hPre_routing_finite : Cert.Pre_routing_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_routing_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_routing_finite [hReferenceIdeal : Cert.ReferenceIdeal.Facts] [hPre_routing_finite : Cert.Pre_routing_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_routing_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_routing_finite [hKernelIdeal : Cert.KernelIdeal.Facts] [hReferenceIdeal : Cert.ReferenceIdeal.Facts] [hPre_routing_finite : Cert.Pre_routing_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_routing_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v219) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_routing_finite : Cert.Pre_routing_finite.Facts),
    quiescent_Kernel (hKernel := hKernel)
    ∧ quiescent_KernelIdeal (hKernelIdeal := hKernelIdeal)
    ∧ quiescent_KernelIdeal_pre_routing_finite (hKernelIdeal := hKernelIdeal) (hPre_routing_finite := hPre_routing_finite)
    ∧ quiescent_ReferenceIdeal (hReferenceIdeal := hReferenceIdeal)
    ∧ quiescent_ReferenceIdeal_pre_routing_finite (hReferenceIdeal := hReferenceIdeal) (hPre_routing_finite := hPre_routing_finite)
    ∧ preserves_Kernel_KernelIdeal
    ∧ algebraic_KernelIdeal_ReferenceIdeal_pre_routing_finite (hKernelIdeal := hKernelIdeal) (hReferenceIdeal := hReferenceIdeal) (hPre_routing_finite := hPre_routing_finite)
-- ==== Pre_routing_finite.lean ====
abbrev S1x2048x768 : Shape := ⟨3, ![1, 2048, 768]⟩
abbrev S768x8 : Shape := ⟨2, ![768, 8]⟩
abbrev S8 : Shape := ⟨1, ![8]⟩
abbrev S8x768x3072 : Shape := ⟨3, ![8, 768, 3072]⟩
abbrev S8x3072 : Shape := ⟨2, ![8, 3072]⟩
abbrev S8x3072x768 : Shape := ⟨3, ![8, 3072, 768]⟩
abbrev S8x768 : Shape := ⟨2, ![8, 768]⟩
abbrev S_ : Shape := ⟨0, ![]⟩

class Facts : Prop where
  bcast_S_S1x2048x768 : S_.BroadcastsInDim S1x2048x768 (![] : Fin 0 → Fin S1x2048x768.rank)
  reducesTo_S1x2048x768_S_d0_1_2 : S1x2048x768.ReducesTo [0, 1, 2] S_
  h_S_ : 0 < S_.numel
  bcast_S_S768x8 : S_.BroadcastsInDim S768x8 (![] : Fin 0 → Fin S768x8.rank)
  reducesTo_S768x8_S_d0_1 : S768x8.ReducesTo [0, 1] S_
  bcast_S_S8 : S_.BroadcastsInDim S8 (![] : Fin 0 → Fin S8.rank)
  reducesTo_S8_S_d0 : S8.ReducesTo [0] S_

variable [Facts]

def fn {F : FTy → Type} [FloatOps F] (main_arg0 : FVec F S1x2048x768 .f32) (main_arg1 : FVec F S768x8 .f32) (main_arg2 : FVec F S8 .f32) (main_arg3 : FVec F S8x768x3072 .f32) (main_arg4 : FVec F S8x3072 .f32) (main_arg5 : FVec F S8x3072x768 .f32) (main_arg6 : FVec F S8x768 .f32) : IVec S_ 1 :=
  let main_v0 : FVec F S1x2048x768 .f32 := Host.absf main_arg0
  let main_cst : FVec F S_ .f32 := constant S_ .f32 0x7F800000#32
  let main_v1 : FVec F S1x2048x768 .f32 := broadcastInDim S1x2048x768 ![] bcast_S_S1x2048x768 main_cst
  let main_v2 : IVec S1x2048x768 1 := cmpf .olt main_v0 main_v1
  let main_c : IVec S_ 1 := constantI S_ 1 1#1
  let main_v3 : IVec S_ 1 := (fun x v => Host.reduce IntOp.andi x v reducesTo_S1x2048x768_S_d0_1_2 h_S_) main_v2 main_c
  let main_v4 : FVec F S768x8 .f32 := Host.absf main_arg1
  let main_cst_0 : FVec F S_ .f32 := constant S_ .f32 0x7F800000#32
  let main_v5 : FVec F S768x8 .f32 := broadcastInDim S768x8 ![] bcast_S_S768x8 main_cst_0
  let main_v6 : IVec S768x8 1 := cmpf .olt main_v4 main_v5
  let main_c_1 : IVec S_ 1 := constantI S_ 1 1#1
  let main_v7 : IVec S_ 1 := (fun x v => Host.reduce IntOp.andi x v reducesTo_S768x8_S_d0_1 h_S_) main_v6 main_c_1
  let main_v8 : IVec S_ 1 := andi main_v3 main_v7
  let main_v9 : FVec F S8 .f32 := Host.absf main_arg2
  let main_cst_2 : FVec F S_ .f32 := constant S_ .f32 0x7F800000#32
  let main_v10 : FVec F S8 .f32 := broadcastInDim S8 ![] bcast_S_S8 main_cst_2
  let main_v11 : IVec S8 1 := cmpf .olt main_v9 main_v10
  let main_c_3 : IVec S_ 1 := constantI S_ 1 1#1
  let main_v12 : IVec S_ 1 := (fun x v => Host.reduce IntOp.andi x v reducesTo_S8_S_d0 h_S_) main_v11 main_c_3
  let main_v13 : IVec S_ 1 := andi main_v8 main_v12
  main_v13
-- ==== Kernel.lean ====
abbrev S1x2048x768 : Shape := ⟨3, ![1, 2048, 768]⟩
abbrev S768x8 : Shape := ⟨2, ![768, 8]⟩
abbrev S8 : Shape := ⟨1, ![8]⟩
abbrev S8x768x3072 : Shape := ⟨3, ![8, 768, 3072]⟩
abbrev S8x3072 : Shape := ⟨2, ![8, 3072]⟩
abbrev S8x3072x768 : Shape := ⟨3, ![8, 3072, 768]⟩
abbrev S8x768 : Shape := ⟨2, ![8, 768]⟩
abbrev S2048x768 : Shape := ⟨2, ![2048, 768]⟩
abbrev S1x8 : Shape := ⟨2, ![1, 8]⟩
abbrev S8x1x3072 : Shape := ⟨3, ![8, 1, 3072]⟩
abbrev S8x1x768 : Shape := ⟨3, ![8, 1, 768]⟩
abbrev S2048x1 : Shape := ⟨2, ![2048, 1]⟩
abbrev S1x32 : Shape := ⟨2, ![1, 32]⟩
abbrev S1x1 : Shape := ⟨2, ![1, 1]⟩
abbrev S2048x8 : Shape := ⟨2, ![2048, 8]⟩
abbrev S2048 : Shape := ⟨1, ![2048]⟩
abbrev S512x512 : Shape := ⟨2, ![512, 512]⟩
abbrev S512x8 : Shape := ⟨2, ![512, 8]⟩
abbrev S8x8 : Shape := ⟨2, ![8, 8]⟩
abbrev S8x1 : Shape := ⟨2, ![8, 1]⟩
abbrev S8x32 : Shape := ⟨2, ![8, 32]⟩
abbrev S32 : Shape := ⟨1, ![32]⟩
abbrev S1 : Shape := ⟨1, ![1]⟩
abbrev S1x2048 : Shape := ⟨2, ![1, 2048]⟩
abbrev S1x768x3072 : Shape := ⟨3, ![1, 768, 3072]⟩
abbrev S1x1x3072 : Shape := ⟨3, ![1, 1, 3072]⟩
abbrev S1x3072x768 : Shape := ⟨3, ![1, 3072, 768]⟩
abbrev S1x1x768 : Shape := ⟨3, ![1, 1, 768]⟩
abbrev S256x2048 : Shape := ⟨2, ![256, 2048]⟩
abbrev S256x768 : Shape := ⟨2, ![256, 768]⟩
abbrev S768x3072 : Shape := ⟨2, ![768, 3072]⟩
abbrev S256x3072 : Shape := ⟨2, ![256, 3072]⟩
abbrev S1x3072 : Shape := ⟨2, ![1, 3072]⟩
abbrev S3072x768 : Shape := ⟨2, ![3072, 768]⟩
abbrev S1x768 : Shape := ⟨2, ![1, 768]⟩
abbrev S2048x256 : Shape := ⟨2, ![2048, 256]⟩

abbrev nBuf : Space → Nat
  | .hbm => 22
  | .vmem => 26
  | .smem => 3
  | _ => 0

abbrev bufTy : (tb : Table) → Fin (tcTables nBuf tb) → BufTy
  | .hbm, ⟨0, _⟩ => ⟨S1x2048x768, .f32⟩
  | .hbm, ⟨1, _⟩ => ⟨S768x8, .f32⟩
  | .hbm, ⟨2, _⟩ => ⟨S8, .f32⟩
  | .hbm, ⟨3, _⟩ => ⟨S8x768x3072, .f32⟩
  | .hbm, ⟨4, _⟩ => ⟨S8x3072, .f32⟩
  | .hbm, ⟨5, _⟩ => ⟨S8x3072x768, .f32⟩
  | .hbm, ⟨6, _⟩ => ⟨S8x768, .f32⟩
  | .hbm, ⟨7, _⟩ => ⟨S2048x768, .f32⟩
  | .hbm, ⟨8, _⟩ => ⟨S1x8, .f32⟩
  | .hbm, ⟨9, _⟩ => ⟨S8x1x3072, .f32⟩
  | .hbm, ⟨10, _⟩ => ⟨S8x1x768, .f32⟩
  | .hbm, ⟨11, _⟩ => ⟨S2048x1, .i32⟩
  | .hbm, ⟨12, _⟩ => ⟨S2048x1, .i32⟩
  | .hbm, ⟨13, _⟩ => ⟨S2048x1, .f32⟩
  | .hbm, ⟨14, _⟩ => ⟨S2048x1, .f32⟩
  | .hbm, ⟨15, _⟩ => ⟨S1x32, .i32⟩
  | .hbm, ⟨16, _⟩ => ⟨S1x32, .i32⟩
  | .hbm, ⟨17, _⟩ => ⟨S1x1, .i32⟩
  | .hbm, ⟨18, _⟩ => ⟨S1x2048, .i32⟩
  | .hbm, ⟨19, _⟩ => ⟨S1x2048, .i32⟩
  | .hbm, ⟨20, _⟩ => ⟨S2048x768, .f32⟩
  | .hbm, ⟨21, _⟩ => ⟨S1x2048x768, .f32⟩
  | .local _ .vmem, ⟨0, _⟩ => ⟨S2048x768, .f32⟩
  | .local _ .vmem, ⟨1, _⟩ => ⟨S768x8, .f32⟩
  | .local _ .vmem, ⟨2, _⟩ => ⟨S1x8, .f32⟩
  | .local _ .vmem, ⟨3, _⟩ => ⟨S2048x1, .i32⟩
  | .local _ .vmem, ⟨4, _⟩ => ⟨S2048x1, .i32⟩
  | .local _ .vmem, ⟨5, _⟩ => ⟨S2048x1, .f32⟩
  | .local _ .vmem, ⟨6, _⟩ => ⟨S2048x1, .f32⟩
  | .local _ .vmem, ⟨7, _⟩ => ⟨S1x32, .i32⟩
  | .local _ .vmem, ⟨8, _⟩ => ⟨S1x32, .i32⟩
  | .local _ .vmem, ⟨9, _⟩ => ⟨S1x1, .i32⟩
  | .local _ .vmem, ⟨10, _⟩ => ⟨S2048x768, .f32⟩
  | .local _ .vmem, ⟨11, _⟩ => ⟨S1x2048, .i32⟩
  | .local _ .vmem, ⟨12, _⟩ => ⟨S1x2048, .i32⟩
  | .local _ .vmem, ⟨13, _⟩ => ⟨S2048x1, .i32⟩
  | .local _ .vmem, ⟨14, _⟩ => ⟨S2048x1, .i32⟩
  | .local _ .vmem, ⟨15, _⟩ => ⟨S2048x1, .f32⟩
  | .local _ .vmem, ⟨16, _⟩ => ⟨S2048x1, .f32⟩
  | .local _ .vmem, ⟨17, _⟩ => ⟨S1x768x3072, .f32⟩
  | .local _ .vmem, ⟨18, _⟩ => ⟨S1x768x3072, .f32⟩
  | .local _ .vmem, ⟨19, _⟩ => ⟨S1x1x3072, .f32⟩
  | .local _ .vmem, ⟨20, _⟩ => ⟨S1x1x3072, .f32⟩
  | .local _ .vmem, ⟨21, _⟩ => ⟨S1x3072x768, .f32⟩
  | .local _ .vmem, ⟨22, _⟩ => ⟨S1x3072x768, .f32⟩
  | .local _ .vmem, ⟨23, _⟩ => ⟨S1x1x768, .f32⟩
  | .local _ .vmem, ⟨24, _⟩ => ⟨S1x1x768, .f32⟩
  | .local _ .vmem, ⟨25, _⟩ => ⟨S2048x768, .f32⟩
  | .local _ .smem, ⟨0, _⟩ => ⟨S32, .i32⟩
  | .local _ .smem, ⟨1, _⟩ => ⟨S32, .i32⟩
  | .local _ .smem, ⟨2, _⟩ => ⟨S1, .i32⟩
  | _, _ => ⟨S1x2048x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | _, _ => false

abbrev semScoped : Fin 0 → Bool
  | ⟨_, h⟩ => absurd h (Nat.not_lt_zero _)

abbrev dmaSemScoped : Fin 26 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | _ => false

abbrev sig : RefSig :=
  ofTc nBuf bufTy 0 26 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4_0 : Ref sig .tc := ⟨.hbm, 11, rfl⟩
abbrev main_v4_1 : Ref sig .tc := ⟨.hbm, 12, rfl⟩
abbrev main_v4_2 : Ref sig .tc := ⟨.hbm, 13, rfl⟩
abbrev main_v4_3 : Ref sig .tc := ⟨.hbm, 14, rfl⟩
abbrev main_v4_4 : Ref sig .tc := ⟨.hbm, 15, rfl⟩
abbrev main_v4_5 : Ref sig .tc := ⟨.hbm, 16, rfl⟩
abbrev main_v4_6 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v5 : Ref sig .tc := ⟨.smem, 0, rfl⟩
abbrev main_v6 : Ref sig .tc := ⟨.smem, 1, rfl⟩
abbrev main_v7 : Ref sig .tc := ⟨.smem, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc1_stg0_0 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg5_0 : Ref sig .tc := ⟨.vmem, 15, rfl⟩
abbrev cc1_stg6_0 : Ref sig .tc := ⟨.vmem, 16, rfl⟩
abbrev cc1_stg7_0 : Ref sig .tc := ⟨.vmem, 17, rfl⟩
abbrev cc1_stg7_1 : Ref sig .tc := ⟨.vmem, 18, rfl⟩
abbrev cc1_stg8_0 : Ref sig .tc := ⟨.vmem, 19, rfl⟩
abbrev cc1_stg8_1 : Ref sig .tc := ⟨.vmem, 20, rfl⟩
abbrev cc1_stg9_0 : Ref sig .tc := ⟨.vmem, 21, rfl⟩
abbrev cc1_stg9_1 : Ref sig .tc := ⟨.vmem, 22, rfl⟩
abbrev cc1_stg10_0 : Ref sig .tc := ⟨.vmem, 23, rfl⟩
abbrev cc1_stg10_1 : Ref sig .tc := ⟨.vmem, 24, rfl⟩
abbrev cc1_stg11_0 : Ref sig .tc := ⟨.vmem, 25, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc1_sem0_0 : DmaSem sig := 10
abbrev cc1_sem1_0 : DmaSem sig := 11
abbrev cc1_sem2_0 : DmaSem sig := 12
abbrev cc1_sem3_0 : DmaSem sig := 13
abbrev cc1_sem4_0 : DmaSem sig := 14
abbrev cc1_sem5_0 : DmaSem sig := 15
abbrev cc1_sem6_0 : DmaSem sig := 16
abbrev cc1_sem7_0 : DmaSem sig := 17
abbrev cc1_sem7_1 : DmaSem sig := 18
abbrev cc1_sem8_0 : DmaSem sig := 19
abbrev cc1_sem8_1 : DmaSem sig := 20
abbrev cc1_sem9_0 : DmaSem sig := 21
abbrev cc1_sem9_1 : DmaSem sig := 22
abbrev cc1_sem10_0 : DmaSem sig := 23
abbrev cc1_sem10_1 : DmaSem sig := 24
abbrev cc1_sem11_0 : DmaSem sig := 25

abbrev nD : Nat := 1
abbrev τ : Topo := Topo.v7x

variable {F : FTy → Type} [FloatOps F]

abbrev grid0 : Pipeline.Grid := .none

abbrev stage0_0 : Fin 1 → Memref sig .tc .vmem S2048x768 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S768x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x8 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2048x1 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2048x1 .i32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2048x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2048x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x32 .i32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x32 .i32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x1 .i32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev grid1 : Pipeline.Grid := ⟨1, ![24], ![false]⟩

abbrev pre1 : Pipeline.Prefetch sig := ⟨3, ![main_v5.idx, main_v6.idx, main_v7.idx], fun | 0 => main_v5.names | 1 => main_v6.names | 2 => main_v7.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k1_off1 (i : grid1.Coords) : Fin 1 → Nat :=
  let arg0 : BitVec 32 := BitVec.ofNat 32 (i 0).val
  let v0 : Index := Scalar.indexCast arg0
  ![v0.toNat]
def k1_off2 (i : grid1.Coords) : Fin 1 → Nat :=
  let arg0 : BitVec 32 := BitVec.ofNat 32 (i 0).val
  let v4 : Index := Scalar.indexCast arg0
  ![v4.toNat]
def k1_cond1 (i : grid1.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k1_cond2 (i : grid1.Coords) : BitVec 1 :=
  let arg0 : BitVec 32 := BitVec.ofNat 32 (i 0).val
  let c0_i32_32 : BitVec 32 := 0#32
  let v65 : BitVec 1 := Scalar.cmpi .eq arg0 c0_i32_32
  let v66 : BitVec 32 := Scalar.extui v65
  let c0_i32_33 : BitVec 32 := 0#32
  let v67 : BitVec 1 := Scalar.cmpi .ne v66 c0_i32_33
  v67

def k1_cond3 (i : grid1.Coords) : BitVec 1 :=
  let arg0 : BitVec 32 := BitVec.ofNat 32 (i 0).val
  let c0_i32_34 : BitVec 32 := 0#32
  let v68 : BitVec 1 := Scalar.cmpi .sgt arg0 c0_i32_34
  let v69 : BitVec 32 := Scalar.extui v68
  let c0_i32_35 : BitVec 32 := 0#32
  let v70 : BitVec 1 := Scalar.cmpi .ne v69 c0_i32_35
  v70

def cc1_transform_0 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (k1_off1_inb : ∀ i : grid1.Coords, ∀ a, (k1_off1 i) a + S1.size a ≤ S32.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S32) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_8 (k1_off1_inb : ∀ i : grid1.Coords, ∀ a, (k1_off1 i) a + S1.size a ≤ S32.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S32) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_9 (k1_off1_inb : ∀ i : grid1.Coords, ∀ a, (k1_off1 i) a + S1.size a ≤ S32.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S32) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_10 (k1_off1_inb : ∀ i : grid1.Coords, ∀ a, (k1_off1 i) a + S1.size a ≤ S32.size a) (numel1_S1 : S1.numel = 1) (pf : pre1.Contents (Elt F)) (i : grid1.Coords) : Fin 3 → Nat :=
  let arg0 : BitVec 32 := BitVec.ofNat 32 (i 0).val
  let v0 : Index := Scalar.indexCast arg0
  let v1 : BitVec 32 := pf.at 0 (Rect.unit (s := S32) ![v0.toNat] S1.size (k1_off1_inb i)) numel1_S1
  let c0_i32 : BitVec 32 := 0#32
  let c0_i32_0 : BitVec 32 := 0#32
  let c0_i32_1 : BitVec 32 := 0#32
  ![v1.toNat, c0_i32.toNat, c0_i32_0.toNat]

def cc1_transform_11 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 1 → Memref sig .tc .vmem S2048x768 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false]

abbrev stage1_1 : Fin 1 → Memref sig .tc .vmem S1x2048 .i32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x2048 .i32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S2048x1 .i32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S2048x1 .i32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S2048x1 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S2048x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S1x768x3072 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev stage1_8 : Fin 2 → Memref sig .tc .vmem S1x1x3072 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S1x3072x768 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S1x1x768 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev stage1_11 : Fin 1 → Memref sig .tc .vmem S2048x768 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false]
-- ==== ReferenceIdeal.lean ====
abbrev S1x2048x768 : Shape := ⟨3, ![1, 2048, 768]⟩
abbrev S768x8 : Shape := ⟨2, ![768, 8]⟩
abbrev S8 : Shape := ⟨1, ![8]⟩
abbrev S8x768x3072 : Shape := ⟨3, ![8, 768, 3072]⟩
abbrev S8x3072 : Shape := ⟨2, ![8, 3072]⟩
abbrev S8x3072x768 : Shape := ⟨3, ![8, 3072, 768]⟩
abbrev S8x768 : Shape := ⟨2, ![8, 768]⟩
abbrev S2048x768 : Shape := ⟨2, ![2048, 768]⟩
abbrev S2048x8 : Shape := ⟨2, ![2048, 8]⟩
abbrev S1x8 : Shape := ⟨2, ![1, 8]⟩
abbrev S2048x2 : Shape := ⟨2, ![2048, 2]⟩
abbrev S2048 : Shape := ⟨1, ![2048]⟩
abbrev S2048x1 : Shape := ⟨2, ![2048, 1]⟩
abbrev S_ : Shape := ⟨0, ![]⟩
abbrev S2048x2x1 : Shape := ⟨3, ![2048, 2, 1]⟩
abbrev S2048x2x2 : Shape := ⟨3, ![2048, 2, 2]⟩
abbrev S1x768x3072 : Shape := ⟨3, ![1, 768, 3072]⟩
abbrev S768x3072 : Shape := ⟨2, ![768, 3072]⟩
abbrev S2048x3072 : Shape := ⟨2, ![2048, 3072]⟩
abbrev S1x3072 : Shape := ⟨2, ![1, 3072]⟩
abbrev S3072 : Shape := ⟨1, ![3072]⟩
abbrev S1x3072x768 : Shape := ⟨3, ![1, 3072, 768]⟩
abbrev S3072x768 : Shape := ⟨2, ![3072, 768]⟩
abbrev S1x768 : Shape := ⟨2, ![1, 768]⟩
abbrev S768 : Shape := ⟨1, ![768]⟩

abbrev nBuf : Space → Nat
  | .hbm => 254
  | .vmem => 0
  | .smem => 0
  | _ => 0

abbrev hbmTy0_0 (i : Nat) : BufTy := match i % 128 with
  | 0 => ⟨S1x2048x768, .f32⟩
  | 1 => ⟨S768x8, .f32⟩
  | 2 => ⟨S8, .f32⟩
  | 3 => ⟨S8x768x3072, .f32⟩
  | 4 => ⟨S8x3072, .f32⟩
  | 5 => ⟨S8x3072x768, .f32⟩
  | 6 => ⟨S8x768, .f32⟩
  | 7 => ⟨S2048x768, .f32⟩
  | 8 => ⟨S2048x8, .f32⟩
  | 9 => ⟨S1x8, .f32⟩
  | 10 => ⟨S2048x8, .f32⟩
  | 11 => ⟨S2048x8, .f32⟩
  | 12 => ⟨S2048x2, .f32⟩
  | 13 => ⟨S2048x2, .i32⟩
  | 14 => ⟨S2048, .i32⟩
  | 15 => ⟨S2048x1, .i32⟩
  | 16 => ⟨S_, .f32⟩
  | 17 => ⟨S2048x8, .f32⟩
  | 18 => ⟨S_, .i32⟩
  | 19 => ⟨S2048x1, .i32⟩
  | 20 => ⟨S2048x1, .i1⟩
  | 21 => ⟨S_, .i32⟩
  | 22 => ⟨S2048x1, .i32⟩
  | 23 => ⟨S2048x1, .i32⟩
  | 24 => ⟨S2048x1, .i32⟩
  | 25 => ⟨S_, .i32⟩
  | 26 => ⟨S2048x2, .i32⟩
  | 27 => ⟨S2048x2, .i1⟩
  | 28 => ⟨S_, .i32⟩
  | 29 => ⟨S2048x2, .i32⟩
  | 30 => ⟨S2048x2, .i32⟩
  | 31 => ⟨S2048x2, .i32⟩
  | 32 => ⟨S2048x2, .i32⟩
  | 33 => ⟨S2048x2x1, .i32⟩
  | 34 => ⟨S2048x2x1, .i32⟩
  | 35 => ⟨S2048x2x2, .i32⟩
  | 36 => ⟨S2048x8, .f32⟩
  | 37 => ⟨S_, .f32⟩
  | 38 => ⟨S2048, .f32⟩
  | 39 => ⟨S_, .f32⟩
  | 40 => ⟨S2048, .f32⟩
  | 41 => ⟨S2048, .f32⟩
  | 42 => ⟨S2048x1, .f32⟩
  | 43 => ⟨S2048x8, .f32⟩
  | 44 => ⟨S2048x8, .f32⟩
  | 45 => ⟨S2048x8, .f32⟩
  | 46 => ⟨S_, .f32⟩
  | 47 => ⟨S2048, .f32⟩
  | 48 => ⟨S2048x1, .f32⟩
  | 49 => ⟨S2048x8, .f32⟩
  | 50 => ⟨S2048x8, .f32⟩
  | 51 => ⟨S_, .f32⟩
  | 52 => ⟨S2048x768, .f32⟩
  | 53 => ⟨S1x768x3072, .f32⟩
  | 54 => ⟨S768x3072, .f32⟩
  | 55 => ⟨S2048x3072, .f32⟩
  | 56 => ⟨S1x3072, .f32⟩
  | 57 => ⟨S3072, .f32⟩
  | 58 => ⟨S1x3072, .f32⟩
  | 59 => ⟨S2048x3072, .f32⟩
  | 60 => ⟨S2048x3072, .f32⟩
  | 61 => ⟨S_, .f32⟩
  | 62 => ⟨S2048x3072, .f32⟩
  | 63 => ⟨S2048x3072, .f32⟩
  | 64 => ⟨S1x3072x768, .f32⟩
  | 65 => ⟨S3072x768, .f32⟩
  | 66 => ⟨S2048x768, .f32⟩
  | 67 => ⟨S1x768, .f32⟩
  | 68 => ⟨S768, .f32⟩
  | 69 => ⟨S1x768, .f32⟩
  | 70 => ⟨S2048x768, .f32⟩
  | 71 => ⟨S2048x768, .f32⟩
  | 72 => ⟨S2048x1, .f32⟩
  | 73 => ⟨S2048, .f32⟩
  | 74 => ⟨S2048x1, .f32⟩
  | 75 => ⟨S2048x768, .f32⟩
  | 76 => ⟨S2048x768, .f32⟩
  | 77 => ⟨S2048x768, .f32⟩
  | 78 => ⟨S1x768x3072, .f32⟩
  | 79 => ⟨S768x3072, .f32⟩
  | 80 => ⟨S2048x3072, .f32⟩
  | 81 => ⟨S1x3072, .f32⟩
  | 82 => ⟨S3072, .f32⟩
  | 83 => ⟨S1x3072, .f32⟩
  | 84 => ⟨S2048x3072, .f32⟩
  | 85 => ⟨S2048x3072, .f32⟩
  | 86 => ⟨S_, .f32⟩
  | 87 => ⟨S2048x3072, .f32⟩
  | 88 => ⟨S2048x3072, .f32⟩
  | 89 => ⟨S1x3072x768, .f32⟩
  | 90 => ⟨S3072x768, .f32⟩
  | 91 => ⟨S2048x768, .f32⟩
  | 92 => ⟨S1x768, .f32⟩
  | 93 => ⟨S768, .f32⟩
  | 94 => ⟨S1x768, .f32⟩
  | 95 => ⟨S2048x768, .f32⟩
  | 96 => ⟨S2048x768, .f32⟩
  | 97 => ⟨S2048x1, .f32⟩
  | 98 => ⟨S2048, .f32⟩
  | 99 => ⟨S2048x1, .f32⟩
  | 100 => ⟨S2048x768, .f32⟩
  | 101 => ⟨S2048x768, .f32⟩
  | 102 => ⟨S2048x768, .f32⟩
  | 103 => ⟨S1x768x3072, .f32⟩
  | 104 => ⟨S768x3072, .f32⟩
  | 105 => ⟨S2048x3072, .f32⟩
  | 106 => ⟨S1x3072, .f32⟩
  | 107 => ⟨S3072, .f32⟩
  | 108 => ⟨S1x3072, .f32⟩
  | 109 => ⟨S2048x3072, .f32⟩
  | 110 => ⟨S2048x3072, .f32⟩
  | 111 => ⟨S_, .f32⟩
  | 112 => ⟨S2048x3072, .f32⟩
  | 113 => ⟨S2048x3072, .f32⟩
  | 114 => ⟨S1x3072x768, .f32⟩
  | 115 => ⟨S3072x768, .f32⟩
  | 116 => ⟨S2048x768, .f32⟩
  | 117 => ⟨S1x768, .f32⟩
  | 118 => ⟨S768, .f32⟩
  | 119 => ⟨S1x768, .f32⟩
  | 120 => ⟨S2048x768, .f32⟩
  | 121 => ⟨S2048x768, .f32⟩
  | 122 => ⟨S2048x1, .f32⟩
  | 123 => ⟨S2048, .f32⟩
  | 124 => ⟨S2048x1, .f32⟩
  | 125 => ⟨S2048x768, .f32⟩
  | 126 => ⟨S2048x768, .f32⟩
  | 127 => ⟨S2048x768, .f32⟩
  | _ => ⟨S1x2048x768, .f32⟩

abbrev hbmTy0_1 (i : Nat) : BufTy := match i % 128 with
  | 0 => ⟨S1x768x3072, .f32⟩
  | 1 => ⟨S768x3072, .f32⟩
  | 2 => ⟨S2048x3072, .f32⟩
  | 3 => ⟨S1x3072, .f32⟩
  | 4 => ⟨S3072, .f32⟩
  | 5 => ⟨S1x3072, .f32⟩
  | 6 => ⟨S2048x3072, .f32⟩
  | 7 => ⟨S2048x3072, .f32⟩
  | 8 => ⟨S_, .f32⟩
  | 9 => ⟨S2048x3072, .f32⟩
  | 10 => ⟨S2048x3072, .f32⟩
  | 11 => ⟨S1x3072x768, .f32⟩
  | 12 => ⟨S3072x768, .f32⟩
  | 13 => ⟨S2048x768, .f32⟩
  | 14 => ⟨S1x768, .f32⟩
  | 15 => ⟨S768, .f32⟩
  | 16 => ⟨S1x768, .f32⟩
  | 17 => ⟨S2048x768, .f32⟩
  | 18 => ⟨S2048x768, .f32⟩
  | 19 => ⟨S2048x1, .f32⟩
  | 20 => ⟨S2048, .f32⟩
  | 21 => ⟨S2048x1, .f32⟩
  | 22 => ⟨S2048x768, .f32⟩
  | 23 => ⟨S2048x768, .f32⟩
  | 24 => ⟨S2048x768, .f32⟩
  | 25 => ⟨S1x768x3072, .f32⟩
  | 26 => ⟨S768x3072, .f32⟩
  | 27 => ⟨S2048x3072, .f32⟩
  | 28 => ⟨S1x3072, .f32⟩
  | 29 => ⟨S3072, .f32⟩
  | 30 => ⟨S1x3072, .f32⟩
  | 31 => ⟨S2048x3072, .f32⟩
  | 32 => ⟨S2048x3072, .f32⟩
  | 33 => ⟨S_, .f32⟩
  | 34 => ⟨S2048x3072, .f32⟩
  | 35 => ⟨S2048x3072, .f32⟩
  | 36 => ⟨S1x3072x768, .f32⟩
  | 37 => ⟨S3072x768, .f32⟩
  | 38 => ⟨S2048x768, .f32⟩
  | 39 => ⟨S1x768, .f32⟩
  | 40 => ⟨S768, .f32⟩
  | 41 => ⟨S1x768, .f32⟩
  | 42 => ⟨S2048x768, .f32⟩
  | 43 => ⟨S2048x768, .f32⟩
  | 44 => ⟨S2048x1, .f32⟩
  | 45 => ⟨S2048, .f32⟩
  | 46 => ⟨S2048x1, .f32⟩
  | 47 => ⟨S2048x768, .f32⟩
  | 48 => ⟨S2048x768, .f32⟩
  | 49 => ⟨S2048x768, .f32⟩
  | 50 => ⟨S1x768x3072, .f32⟩
  | 51 => ⟨S768x3072, .f32⟩
  | 52 => ⟨S2048x3072, .f32⟩
  | 53 => ⟨S1x3072, .f32⟩
  | 54 => ⟨S3072, .f32⟩
  | 55 => ⟨S1x3072, .f32⟩
  | 56 => ⟨S2048x3072, .f32⟩
  | 57 => ⟨S2048x3072, .f32⟩
  | 58 => ⟨S_, .f32⟩
  | 59 => ⟨S2048x3072, .f32⟩
  | 60 => ⟨S2048x3072, .f32⟩
  | 61 => ⟨S1x3072x768, .f32⟩
  | 62 => ⟨S3072x768, .f32⟩
  | 63 => ⟨S2048x768, .f32⟩
  | 64 => ⟨S1x768, .f32⟩
  | 65 => ⟨S768, .f32⟩
  | 66 => ⟨S1x768, .f32⟩
  | 67 => ⟨S2048x768, .f32⟩
  | 68 => ⟨S2048x768, .f32⟩
  | 69 => ⟨S2048x1, .f32⟩
  | 70 => ⟨S2048, .f32⟩
  | 71 => ⟨S2048x1, .f32⟩
  | 72 => ⟨S2048x768, .f32⟩
  | 73 => ⟨S2048x768, .f32⟩
  | 74 => ⟨S2048x768, .f32⟩
  | 75 => ⟨S1x768x3072, .f32⟩
  | 76 => ⟨S768x3072, .f32⟩
  | 77 => ⟨S2048x3072, .f32⟩
  | 78 => ⟨S1x3072, .f32⟩
  | 79 => ⟨S3072, .f32⟩
  | 80 => ⟨S1x3072, .f32⟩
  | 81 => ⟨S2048x3072, .f32⟩
  | 82 => ⟨S2048x3072, .f32⟩
  | 83 => ⟨S_, .f32⟩
  | 84 => ⟨S2048x3072, .f32⟩
  | 85 => ⟨S2048x3072, .f32⟩
  | 86 => ⟨S1x3072x768, .f32⟩
  | 87 => ⟨S3072x768, .f32⟩
  | 88 => ⟨S2048x768, .f32⟩
  | 89 => ⟨S1x768, .f32⟩
  | 90 => ⟨S768, .f32⟩
  | 91 => ⟨S1x768, .f32⟩
  | 92 => ⟨S2048x768, .f32⟩
  | 93 => ⟨S2048x768, .f32⟩
  | 94 => ⟨S2048x1, .f32⟩
  | 95 => ⟨S2048, .f32⟩
  | 96 => ⟨S2048x1, .f32⟩
  | 97 => ⟨S2048x768, .f32⟩
  | 98 => ⟨S2048x768, .f32⟩
  | 99 => ⟨S2048x768, .f32⟩
  | 100 => ⟨S1x768x3072, .f32⟩
  | 101 => ⟨S768x3072, .f32⟩
  | 102 => ⟨S2048x3072, .f32⟩
  | 103 => ⟨S1x3072, .f32⟩
  | 104 => ⟨S3072, .f32⟩
  | 105 => ⟨S1x3072, .f32⟩
  | 106 => ⟨S2048x3072, .f32⟩
  | 107 => ⟨S2048x3072, .f32⟩
  | 108 => ⟨S_, .f32⟩
  | 109 => ⟨S2048x3072, .f32⟩
  | 110 => ⟨S2048x3072, .f32⟩
  | 111 => ⟨S1x3072x768, .f32⟩
  | 112 => ⟨S3072x768, .f32⟩
  | 113 => ⟨S2048x768, .f32⟩
  | 114 => ⟨S1x768, .f32⟩
  | 115 => ⟨S768, .f32⟩
  | 116 => ⟨S1x768, .f32⟩
  | 117 => ⟨S2048x768, .f32⟩
  | 118 => ⟨S2048x768, .f32⟩
  | 119 => ⟨S2048x1, .f32⟩
  | 120 => ⟨S2048, .f32⟩
  | 121 => ⟨S2048x1, .f32⟩
  | 122 => ⟨S2048x768, .f32⟩
  | 123 => ⟨S2048x768, .f32⟩
  | 124 => ⟨S2048x768, .f32⟩
  | 125 => ⟨S1x2048x768, .f32⟩
  | _ => ⟨S1x2048x768, .f32⟩

abbrev hbmTy (i : Nat) : BufTy := match i / 128 with
  | 0 => hbmTy0_0 i
  | 1 => hbmTy0_1 i
  | _ => ⟨S1x2048x768, .f32⟩

abbrev bufTy : (tb : Table) → Fin (tcTables nBuf tb) → BufTy
  | .hbm, ⟨i, _⟩ => hbmTy i
  | _, _ => ⟨S1x2048x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_values : Ref sig .tc := ⟨.hbm, 12, rfl⟩
abbrev main_indices : Ref sig .tc := ⟨.hbm, 13, rfl⟩
abbrev main_v5 : Ref sig .tc := ⟨.hbm, 14, rfl⟩
abbrev main_v6 : Ref sig .tc := ⟨.hbm, 15, rfl⟩
abbrev main_cst : Ref sig .tc := ⟨.hbm, 16, rfl⟩
abbrev main_v7 : Ref sig .tc := ⟨.hbm, 17, rfl⟩
abbrev main_c : Ref sig .tc := ⟨.hbm, 18, rfl⟩
abbrev main_v8 : Ref sig .tc := ⟨.hbm, 19, rfl⟩
abbrev main_v9 : Ref sig .tc := ⟨.hbm, 20, rfl⟩
abbrev main_c_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_c_1 : Ref sig .tc := ⟨.hbm, 25, rfl⟩
abbrev main_v13 : Ref sig .tc := ⟨.hbm, 26, rfl⟩
abbrev main_v14 : Ref sig .tc := ⟨.hbm, 27, rfl⟩
abbrev main_c_2 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_cst_3 : Ref sig .tc := ⟨.hbm, 37, rfl⟩
abbrev main_v23 : Ref sig .tc := ⟨.hbm, 38, rfl⟩
abbrev main_cst_4 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_cst_5 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_cst_6 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_call0_cst : Ref sig .tc := ⟨.hbm, 61, rfl⟩
abbrev main_call0_v0 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩
abbrev main_v54 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_call1_cst : Ref sig .tc := ⟨.hbm, 86, rfl⟩
abbrev main_call1_v0 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_v78 : Ref sig .tc := ⟨.hbm, 100, rfl⟩
abbrev main_v79 : Ref sig .tc := ⟨.hbm, 101, rfl⟩
abbrev main_v80 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_call2_cst : Ref sig .tc := ⟨.hbm, 111, rfl⟩
abbrev main_call2_v0 : Ref sig .tc := ⟨.hbm, 112, rfl⟩
abbrev main_v89 : Ref sig .tc := ⟨.hbm, 113, rfl⟩
abbrev main_v90 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_v95 : Ref sig .tc := ⟨.hbm, 119, rfl⟩
abbrev main_v96 : Ref sig .tc := ⟨.hbm, 120, rfl⟩
abbrev main_v97 : Ref sig .tc := ⟨.hbm, 121, rfl⟩
abbrev main_v98 : Ref sig .tc := ⟨.hbm, 122, rfl⟩
abbrev main_v99 : Ref sig .tc := ⟨.hbm, 123, rfl⟩
abbrev main_v100 : Ref sig .tc := ⟨.hbm, 124, rfl⟩
abbrev main_v101 : Ref sig .tc := ⟨.hbm, 125, rfl⟩
abbrev main_v102 : Ref sig .tc := ⟨.hbm, 126, rfl⟩
abbrev main_v103 : Ref sig .tc := ⟨.hbm, 127, rfl⟩
abbrev main_v104 : Ref sig .tc := ⟨.hbm, 128, rfl⟩
abbrev main_v105 : Ref sig .tc := ⟨.hbm, 129, rfl⟩
abbrev main_v106 : Ref sig .tc := ⟨.hbm, 130, rfl⟩
abbrev main_v107 : Ref sig .tc := ⟨.hbm, 131, rfl⟩
abbrev main_v108 : Ref sig .tc := ⟨.hbm, 132, rfl⟩
abbrev main_v109 : Ref sig .tc := ⟨.hbm, 133, rfl⟩
abbrev main_v110 : Ref sig .tc := ⟨.hbm, 134, rfl⟩
abbrev main_v111 : Ref sig .tc := ⟨.hbm, 135, rfl⟩
abbrev main_call3_cst : Ref sig .tc := ⟨.hbm, 136, rfl⟩
abbrev main_call3_v0 : Ref sig .tc := ⟨.hbm, 137, rfl⟩
abbrev main_v112 : Ref sig .tc := ⟨.hbm, 138, rfl⟩
abbrev main_v113 : Ref sig .tc := ⟨.hbm, 139, rfl⟩
abbrev main_v114 : Ref sig .tc := ⟨.hbm, 140, rfl⟩
abbrev main_v115 : Ref sig .tc := ⟨.hbm, 141, rfl⟩
abbrev main_v116 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_v122 : Ref sig .tc := ⟨.hbm, 148, rfl⟩
abbrev main_v123 : Ref sig .tc := ⟨.hbm, 149, rfl⟩
abbrev main_v124 : Ref sig .tc := ⟨.hbm, 150, rfl⟩
abbrev main_v125 : Ref sig .tc := ⟨.hbm, 151, rfl⟩
abbrev main_v126 : Ref sig .tc := ⟨.hbm, 152, rfl⟩
abbrev main_v127 : Ref sig .tc := ⟨.hbm, 153, rfl⟩
abbrev main_v128 : Ref sig .tc := ⟨.hbm, 154, rfl⟩
abbrev main_v129 : Ref sig .tc := ⟨.hbm, 155, rfl⟩
abbrev main_v130 : Ref sig .tc := ⟨.hbm, 156, rfl⟩
abbrev main_v131 : Ref sig .tc := ⟨.hbm, 157, rfl⟩
abbrev main_v132 : Ref sig .tc := ⟨.hbm, 158, rfl⟩
abbrev main_v133 : Ref sig .tc := ⟨.hbm, 159, rfl⟩
abbrev main_v134 : Ref sig .tc := ⟨.hbm, 160, rfl⟩
abbrev main_call4_cst : Ref sig .tc := ⟨.hbm, 161, rfl⟩
abbrev main_call4_v0 : Ref sig .tc := ⟨.hbm, 162, rfl⟩
abbrev main_v135 : Ref sig .tc := ⟨.hbm, 163, rfl⟩
abbrev main_v136 : Ref sig .tc := ⟨.hbm, 164, rfl⟩
abbrev main_v137 : Ref sig .tc := ⟨.hbm, 165, rfl⟩
abbrev main_v138 : Ref sig .tc := ⟨.hbm, 166, rfl⟩
abbrev main_v139 : Ref sig .tc := ⟨.hbm, 167, rfl⟩
abbrev main_v140 : Ref sig .tc := ⟨.hbm, 168, rfl⟩
abbrev main_v141 : Ref sig .tc := ⟨.hbm, 169, rfl⟩
abbrev main_v142 : Ref sig .tc := ⟨.hbm, 170, rfl⟩
abbrev main_v143 : Ref sig .tc := ⟨.hbm, 171, rfl⟩
abbrev main_v144 : Ref sig .tc := ⟨.hbm, 172, rfl⟩
abbrev main_v145 : Ref sig .tc := ⟨.hbm, 173, rfl⟩
abbrev main_v146 : Ref sig .tc := ⟨.hbm, 174, rfl⟩
abbrev main_v147 : Ref sig .tc := ⟨.hbm, 175, rfl⟩
abbrev main_v148 : Ref sig .tc := ⟨.hbm, 176, rfl⟩
abbrev main_v149 : Ref sig .tc := ⟨.hbm, 177, rfl⟩
abbrev main_v150 : Ref sig .tc := ⟨.hbm, 178, rfl⟩
abbrev main_v151 : Ref sig .tc := ⟨.hbm, 179, rfl⟩
abbrev main_v152 : Ref sig .tc := ⟨.hbm, 180, rfl⟩
abbrev main_v153 : Ref sig .tc := ⟨.hbm, 181, rfl⟩
abbrev main_v154 : Ref sig .tc := ⟨.hbm, 182, rfl⟩
abbrev main_v155 : Ref sig .tc := ⟨.hbm, 183, rfl⟩
abbrev main_v156 : Ref sig .tc := ⟨.hbm, 184, rfl⟩
abbrev main_v157 : Ref sig .tc := ⟨.hbm, 185, rfl⟩
abbrev main_call5_cst : Ref sig .tc := ⟨.hbm, 186, rfl⟩
abbrev main_call5_v0 : Ref sig .tc := ⟨.hbm, 187, rfl⟩
abbrev main_v158 : Ref sig .tc := ⟨.hbm, 188, rfl⟩
abbrev main_v159 : Ref sig .tc := ⟨.hbm, 189, rfl⟩
abbrev main_v160 : Ref sig .tc := ⟨.hbm, 190, rfl⟩
abbrev main_v161 : Ref sig .tc := ⟨.hbm, 191, rfl⟩
abbrev main_v162 : Ref sig .tc := ⟨.hbm, 192, rfl⟩
abbrev main_v163 : Ref sig .tc := ⟨.hbm, 193, rfl⟩
abbrev main_v164 : Ref sig .tc := ⟨.hbm, 194, rfl⟩
abbrev main_v165 : Ref sig .tc := ⟨.hbm, 195, rfl⟩
abbrev main_v166 : Ref sig .tc := ⟨.hbm, 196, rfl⟩
abbrev main_v167 : Ref sig .tc := ⟨.hbm, 197, rfl⟩
abbrev main_v168 : Ref sig .tc := ⟨.hbm, 198, rfl⟩
abbrev main_v169 : Ref sig .tc := ⟨.hbm, 199, rfl⟩
abbrev main_v170 : Ref sig .tc := ⟨.hbm, 200, rfl⟩
abbrev main_v171 : Ref sig .tc := ⟨.hbm, 201, rfl⟩
abbrev main_v172 : Ref sig .tc := ⟨.hbm, 202, rfl⟩
abbrev main_v173 : Ref sig .tc := ⟨.hbm, 203, rfl⟩
abbrev main_v174 : Ref sig .tc := ⟨.hbm, 204, rfl⟩
abbrev main_v175 : Ref sig .tc := ⟨.hbm, 205, rfl⟩
abbrev main_v176 : Ref sig .tc := ⟨.hbm, 206, rfl⟩
abbrev main_v177 : Ref sig .tc := ⟨.hbm, 207, rfl⟩
abbrev main_v178 : Ref sig .tc := ⟨.hbm, 208, rfl⟩
abbrev main_v179 : Ref sig .tc := ⟨.hbm, 209, rfl⟩
abbrev main_v180 : Ref sig .tc := ⟨.hbm, 210, rfl⟩
abbrev main_call6_cst : Ref sig .tc := ⟨.hbm, 211, rfl⟩
abbrev main_call6_v0 : Ref sig .tc := ⟨.hbm, 212, rfl⟩
abbrev main_v181 : Ref sig .tc := ⟨.hbm, 213, rfl⟩
abbrev main_v182 : Ref sig .tc := ⟨.hbm, 214, rfl⟩
abbrev main_v183 : Ref sig .tc := ⟨.hbm, 215, rfl⟩
abbrev main_v184 : Ref sig .tc := ⟨.hbm, 216, rfl⟩
abbrev main_v185 : Ref sig .tc := ⟨.hbm, 217, rfl⟩
abbrev main_v186 : Ref sig .tc := ⟨.hbm, 218, rfl⟩
abbrev main_v187 : Ref sig .tc := ⟨.hbm, 219, rfl⟩
abbrev main_v188 : Ref sig .tc := ⟨.hbm, 220, rfl⟩
abbrev main_v189 : Ref sig .tc := ⟨.hbm, 221, rfl⟩
abbrev main_v190 : Ref sig .tc := ⟨.hbm, 222, rfl⟩
abbrev main_v191 : Ref sig .tc := ⟨.hbm, 223, rfl⟩
abbrev main_v192 : Ref sig .tc := ⟨.hbm, 224, rfl⟩
abbrev main_v193 : Ref sig .tc := ⟨.hbm, 225, rfl⟩
abbrev main_v194 : Ref sig .tc := ⟨.hbm, 226, rfl⟩
abbrev main_v195 : Ref sig .tc := ⟨.hbm, 227, rfl⟩
abbrev main_v196 : Ref sig .tc := ⟨.hbm, 228, rfl⟩
abbrev main_v197 : Ref sig .tc := ⟨.hbm, 229, rfl⟩
abbrev main_v198 : Ref sig .tc := ⟨.hbm, 230, rfl⟩
abbrev main_v199 : Ref sig .tc := ⟨.hbm, 231, rfl⟩
abbrev main_v200 : Ref sig .tc := ⟨.hbm, 232, rfl⟩
abbrev main_v201 : Ref sig .tc := ⟨.hbm, 233, rfl⟩
abbrev main_v202 : Ref sig .tc := ⟨.hbm, 234, rfl⟩
abbrev main_v203 : Ref sig .tc := ⟨.hbm, 235, rfl⟩
abbrev main_call7_cst : Ref sig .tc := ⟨.hbm, 236, rfl⟩
abbrev main_call7_v0 : Ref sig .tc := ⟨.hbm, 237, rfl⟩
abbrev main_v204 : Ref sig .tc := ⟨.hbm, 238, rfl⟩
abbrev main_v205 : Ref sig .tc := ⟨.hbm, 239, rfl⟩
abbrev main_v206 : Ref sig .tc := ⟨.hbm, 240, rfl⟩
abbrev main_v207 : Ref sig .tc := ⟨.hbm, 241, rfl⟩
abbrev main_v208 : Ref sig .tc := ⟨.hbm, 242, rfl⟩
abbrev main_v209 : Ref sig .tc := ⟨.hbm, 243, rfl⟩
abbrev main_v210 : Ref sig .tc := ⟨.hbm, 244, rfl⟩
abbrev main_v211 : Ref sig .tc := ⟨.hbm, 245, rfl⟩
abbrev main_v212 : Ref sig .tc := ⟨.hbm, 246, rfl⟩
abbrev main_v213 : Ref sig .tc := ⟨.hbm, 247, rfl⟩
abbrev main_v214 : Ref sig .tc := ⟨.hbm, 248, rfl⟩
abbrev main_v215 : Ref sig .tc := ⟨.hbm, 249, rfl⟩
abbrev main_v216 : Ref sig .tc := ⟨.hbm, 250, rfl⟩
abbrev main_v217 : Ref sig .tc := ⟨.hbm, 251, rfl⟩
abbrev main_v218 : Ref sig .tc := ⟨.hbm, 252, rfl⟩
abbrev main_v219 : Ref sig .tc := ⟨.hbm, 253, rfl⟩

abbrev nD : Nat := 1
abbrev τ : Topo := Topo.v7x

variable {F : FTy → Type} [FloatOps F]
-- ==== Proof.Router.lean ====
/-
  The routing step of the mixture (the first kernel call): what its body computes from the three arrays it loads, and
  the run of that body. The body is one pass over whole arrays: it loads the tokens, the gate's weight and the gate's
  bias, and stores seven arrays. Each is named here as a function of the three loads.
-/
module

public import proofs.«01_k».proof.Proof.Gen.KernelIdeal.Launch
public import proofs.«01_k».proof.Proof.Gen.KernelIdeal.Skeleton
public import Idealize.ShloMosaic.Lib.Tactic
public import Idealize.ShloMosaic.Lib.VecWindow

@[expose] public section

set_option maxRecDepth 16384

noncomputable section

namespace Cert.Proof.Router

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

section Values

variable (x : Vec F S2048x768 .f32) (wg : Vec F S768x8 .f32) (b : Vec F S1x8 .f32)

/-- Which expert each token chose first, as a mask over (token, expert). -/
def sel1 : IVec S2048x8 1 := k0_pay3 x wg b
/-- Which expert each token chose second. -/
def sel2 : IVec S2048x8 1 := k0_pay6 x wg b
/-- The second choice's mask as floats. -/
def hot2 : FVec F S2048x8 .f32 := k0_pay12 (sel2 x wg b)
/-- How many first choices each expert received. -/
def count1 : FVec F S1x8 .f32 := k0_pay22 (sel1 x wg b)
/-- How many second choices of the first 512 tokens each expert received. -/
def count2a : FVec F S8 .f32 := k0_pay26 (sel2 x wg b)
/-- How many choices each expert received. -/
def counts : FVec F S1x8 .f32 := k0_pay33 (hot2 x wg b) (count1 x wg b) (count2a x wg b)
/-- The counts rounded up to whole tiles. -/
def padded : FVec F S1x8 .f32 := k0_pay34 (hot2 x wg b) (count1 x wg b) (count2a x wg b)
/-- Where each expert's run of tiles starts. -/
def starts : FVec F S1x8 .f32 := k0_pay35 (hot2 x wg b) (count1 x wg b) (count2a x wg b)

/-- The first choice's place in the sorted order. -/
def pos0 : Vec F S2048x1 .i32 :=
  k0_pay37 (k0_pay11 (sel1 x wg b)) (hot2 x wg b) (count1 x wg b) (k0_pay23 (sel1 x wg b)) (count2a x wg b)
/-- The second choice's place in the sorted order. -/
def pos1 : Vec F S2048x1 .i32 :=
  k0_pay38 (k0_pay36 (hot2 x wg b) k0_pay13 (count1 x wg b) (k0_pay25 (sel1 x wg b) (sel2 x wg b)) (count2a x wg b))
/-- The first choice's gate. -/
def gate0 : Vec F S2048x1 .f32 := k0_pay8 x wg b
/-- The second choice's gate. -/
def gate1 : Vec F S2048x1 .f32 := k0_pay10 (k0_pay7 x wg b) (k0_pay9 x wg b)
/-- The expert each tile is computed with. -/
def tileExpert : Vec F S1x32 .i32 :=
  k0_pay39 (counts x wg b) (padded x wg b) (iota .tc S8x8 32 [0] iota_S8x8_d0_w32) (iota .tc S8x8 32 [1] iota_S8x8_d1_w32) (starts x wg b)
/-- The tile each grid point works on. -/
def tileRow : Vec F S1x32 .i32 := k0_pay41 (padded x wg b)
/-- How many tiles are in use. -/
def tilesUsed : Vec F S1x1 .i32 := k0_pay40 (padded x wg b)

end Values

/-- The resource algebra of the whole program: the pipeline library's beside the transfers' counters. -/
abbrev UU : Type := UR sig nD τ × Counters

local notation "𝕄" => MT nD τ sig Unit (Elt F) ℕ UU ℕ

/-- Memref `M`'s buffer on core `c`: its contents type, and it held whole at `f`. -/
abbrev Bf (c : Dev nD) {sp : Space} {S : Shape} {e : EltTy} (M : Memref sig .tc sp S e) : Type := Buf (Elt F) (M.view.loc (c : Thread nD τ))
abbrev pt (c : Dev nD) {sp : Space} {S : Shape} {e : EltTy} (M : Memref sig .tc sp S e) (f : Bf (F := F) c M) : sProp 𝕄 :=
  M.view.loc (c : Thread nD τ) ↦{fullShare} f

/-- Memref `M`'s buffer on core `c` held whole, reading `X`. -/
def reads (c : Dev nD) {sp : Space} {S : Shape} {e : EltTy} (M : Memref sig .tc sp S e) (X : S.Idx → Elt F e) : sProp 𝕄 :=
  iprop(∃ f, ⌜M.view.read (Elt F) f = X⌝ ∗ pt c M f)

set_option maxHeartbeats 400000 in
/-- The routing body's run: from its ten staging buffers held whole, it returns them with the three inputs as they
    were and the seven outputs at the values above. -/
theorem router_run (c : Dev nD)
    (M0 : Memref sig .tc .vmem S2048x768 .f32) (h0 : M0.IsWhole)
    (M1 : Memref sig .tc .vmem S768x8 .f32) (h1 : M1.IsWhole)
    (M2 : Memref sig .tc .vmem S1x8 .f32) (h2 : M2.IsWhole)
    (M3 : Memref sig .tc .vmem S2048x1 .i32) (h3 : M3.IsWhole)
    (M4 : Memref sig .tc .vmem S2048x1 .i32) (h4 : M4.IsWhole)
    (M5 : Memref sig .tc .vmem S2048x1 .f32) (h5 : M5.IsWhole)
    (M6 : Memref sig .tc .vmem S2048x1 .f32) (h6 : M6.IsWhole)
    (M7 : Memref sig .tc .vmem S1x32 .i32) (h7 : M7.IsWhole)
    (M8 : Memref sig .tc .vmem S1x32 .i32) (h8 : M8.IsWhole)
    (M9 : Memref sig .tc .vmem S1x1 .i32) (h9 : M9.IsWhole)
    (f0 : Bf (F := F) c M0) (f1 : Bf (F := F) c M1) (f2 : Bf (F := F) c M2)
    (f3 : Bf (F := F) c M3) (f4 : Bf (F := F) c M4) (f5 : Bf (F := F) c M5) (f6 : Bf (F := F) c M6) (f7 : Bf (F := F) c M7) (f8 : Bf (F := F) c M8) (f9 : Bf (F := F) c M9)
    (x : Vec F S2048x768 .f32) (wg : Vec F S768x8 .f32) (b : Vec F S1x8 .f32)
    (hx : M0.view.read (Elt F) f0 = x) (hw : M1.view.read (Elt F) f1 = wg) (hb : M2.view.read (Elt F) f2 = b)
    (E : Set ℕ) (Q : PUnit → sProp 𝕄) :
    iprop(pt c M0 f0 ∗ pt c M1 f1 ∗ pt c M2 f2 ∗ pt c M3 f3 ∗ pt c M4 f4 ∗ pt c M5 f5 ∗ pt c M6 f6 ∗ pt c M7 f7 ∗ pt c M8 f8 ∗ pt c M9 f9
      ∗ (iprop(pt c M0 f0 ∗ pt c M1 f1 ∗ pt c M2 f2 ∗ reads c M3 (pos0 x wg b) ∗ reads c M4 (pos1 x wg b)
          ∗ reads c M5 (gate0 x wg b) ∗ reads c M6 (gate1 x wg b) ∗ reads c M7 (tileExpert x wg b)
          ∗ reads c M8 (tileRow x wg b) ∗ reads c M9 (tilesUsed x wg b)) -∗ Q ⟨⟩))
      ⊢ wp frame (wpE (defs₀ (F := F)) Variants.none c none) E
          (cc0__router_body M0 h0 M1 h1 M2 h2 M3 h3 M4 h4 M5 h5 M6 h6 M7 h7 M8 h8 M9 h9) Q := by
  rw [cc0__router_body_eq_skeleton]; unfold cc0__router_body_skel
  simp only [k0_part1_eq_skeleton, k0_part2_eq_skeleton, k0_part3_eq_skeleton, k0_part4_eq_skeleton]
  unfold k0_part1_skel k0_part2_skel k0_part3_skel k0_part4_skel
  iintro ⟨H0, H1, H2, H3, H4, H5, H6, H7, H8, H9, Hk⟩
  sl_exec!
  sl_step
  have e0 : M0.view.readAt (Elt F) (Rect.unit (s := S2048x768) ![0, 0] S2048x768.size inb_S2048x768_S2048x768_0_0).toLoadRect f0 = x :=
    (View.readAt_full _ _ _).trans hx
  have e1 : M1.view.readAt (Elt F) (Rect.unit (s := S768x8) ![0, 0] S768x8.size inb_S768x8_S768x8_0_0).toLoadRect f1 = wg :=
    (View.readAt_full _ _ _).trans hw
  have e2 : M2.view.readAt (Elt F) (Rect.unit (s := S1x8) ![0, 0] S1x8.size inb_S1x8_S1x8_0_0).toLoadRect f2 = b :=
    (View.readAt_full _ _ _).trans hb
  simp only at e0 e1 e2
  iapply Hk
  unfold reads
  isplitl [H0]; · iexact H0
  isplitl [H1]; · iexact H1
  isplitl [H2]; · iexact H2
  isplitl [H3]
  · iexists _; isplitr; swap; (· iexact H3); ipureintro
    unfold router_run.sl.H3_1
    rw [View.read_writes_full]

    (simp only [e0, e1, e2]; rfl)
  isplitl [H4]
  · iexists _; isplitr; swap; (· iexact H4); ipureintro
    unfold router_run.sl.H4_1
    rw [View.read_writes_full]
    (simp only [e0, e1, e2]; rfl)
  isplitl [H5]
  · iexists _; isplitr; swap; (· iexact H5); ipureintro
    unfold router_run.sl.H5_1
    rw [View.read_writes_full]
    (simp only [e0, e1, e2]; rfl)
  isplitl [H6]
  · iexists _; isplitr; swap; (· iexact H6); ipureintro
    unfold router_run.sl.H6_1
    rw [View.read_writes_full]
    (simp only [e0, e1, e2]; rfl)
  isplitl [H7]
  · iexists _; isplitr; swap; (· iexact H7); ipureintro
    unfold router_run.sl.H7_1
    rw [View.read_writes_full]
    (simp only [e0, e1, e2]; rfl)
  isplitl [H8]
  · iexists _; isplitr; swap; (· iexact H8); ipureintro
    unfold router_run.sl.H8_1
    rw [View.read_writes_full]
    (simp only [e0, e1, e2]; rfl)
  iexists _; isplitr; swap; (· iexact H9); ipureintro
  unfold router_run.sl.H9_1
  rw [View.read_writes_full]
  (simp only [e0, e1, e2]; rfl)

end Cert.Proof.Router

end
-- ==== Proof.RouterRegion.lean ====
/-
  The routing call as a region: its proof data over any contents at entry, the body's obligation from its run
  (Router.lean), and what its seven output arrays hold afterwards.
-/
module

public import proofs.«01_k».proof.Proof.Router
public import Idealize.ShloMosaic.Lib.Pipeline.Regions
public import Idealize.ShloMosaic.Lib.Pipeline.ValueKit

@[expose] public section

set_option maxRecDepth 16384

noncomputable section

namespace Cert.Proof.Router

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (V : (c : Dev nD) → Valuation τ sig (Elt F))

/-- The tokens, the gate's weight and the gate's bias as the region finds them. -/
abbrev xs (c : Dev nD) : Vec F S2048x768 .f32 := V c main_v0
abbrev ws (c : Dev nD) : Vec F S768x8 .f32 := V c main_arg1
abbrev bs (c : Dev nD) : Vec F S1x8 .f32 := V c main_v1

/-- The region's proof data: the arrays as found, each input's buffer left as fetched, each output's at its value. -/
def dat (c : Dev nD) : Dat τ (Elt F) Unit ℕ UU ℕ cfg0 c where
  A w := V c (Proc.devRef .tc (Pipeline.arrRef spec0 w))
  after w _ := match w with
    | ⟨0, _⟩ => xs V c
    | ⟨1, _⟩ => ws V c
    | ⟨2, _⟩ => bs V c
    | ⟨3, _⟩ => pos0 (xs V c) (ws V c) (bs V c)
    | ⟨4, _⟩ => pos1 (xs V c) (ws V c) (bs V c)
    | ⟨5, _⟩ => gate0 (xs V c) (ws V c) (bs V c)
    | ⟨6, _⟩ => gate1 (xs V c) (ws V c) (bs V c)
    | ⟨7, _⟩ => tileExpert (xs V c) (ws V c) (bs V c)
    | ⟨8, _⟩ => tileRow (xs V c) (ws V c) (bs V c)
    | ⟨9, _⟩ => tilesUsed (xs V c) (ws V c) (bs V c)
  Φ _ := Pipeline.scopedRest (Ix := Unit) (Name := ℕ) (U := UU) (Lvl := ℕ) (Val := Elt F) spec0 c
  q _ := fullShare
  owed _ := 0

theorem before_0 (c : Dev nD) (d) : (dat V c).before 0 t0_0 d = xs V c := by
  unfold Dat.before; rw [if_pos (by decide)]
  funext j
  refine congrArg (V c main_v0) (funext fun a => Fin.ext ?_)
  blk_simp
  show 0 * win0_0.size a + (j a).val = (j a).val
  rw [Nat.zero_mul, Nat.zero_add]
theorem before_1 (c : Dev nD) (d) : (dat V c).before 1 t0_0 d = ws V c := by
  unfold Dat.before; rw [if_pos (by decide)]
  funext j
  refine congrArg (V c main_arg1) (funext fun a => Fin.ext ?_)
  blk_simp
  show 0 * win0_1.size a + (j a).val = (j a).val
  rw [Nat.zero_mul, Nat.zero_add]
theorem before_2 (c : Dev nD) (d) : (dat V c).before 2 t0_0 d = bs V c := by
  unfold Dat.before; rw [if_pos (by decide)]
  funext j
  refine congrArg (V c main_v1) (funext fun a => Fin.ext ?_)
  blk_simp
  show 0 * win0_2.size a + (j a).val = (j a).val
  rw [Nat.zero_mul, Nat.zero_add]

set_option maxHeartbeats 400000 in
theorem body_obligation (c : Dev nD) : BodyObligation (dat V c) (defs₀ (F := F)) Variants.none () Set.univ := fun t => by
  obtain rfl := fin_N0 t
  rw [bigSep_W0, bigSep_W0]
  simp only [owns_whole_eq]
  rw [show (dat V c).Φ t0_0.succ = (dat V c).Φ t0_0.castSucc from rfl,
    show (dat V c).owesAt () t0_0.succ = (dat V c).owesAt () t0_0.castSucc from rfl]
  iintro ⟨HΦ, Howes, ⟨%d0, %f0, %hf0, H0⟩, ⟨%d1, %f1, %hf1, H1⟩, ⟨%d2, %f2, %hf2, H2⟩, ⟨%d3, %f3, -, H3⟩, ⟨%d4, %f4, -, H4⟩,
    ⟨%d5, %f5, -, H5⟩, ⟨%d6, %f6, -, H6⟩, ⟨%d7, %f7, -, H7⟩, ⟨%d8, %f8, -, H8⟩, ⟨%d9, %f9, -, H9⟩⟩
  rw [before_0] at hf0
  rw [before_1] at hf1
  rw [before_2] at hf2
  subst hf0 hf1 hf2
  iapply (router_run c (stage0_0 0) (hstage0_0 0) (stage0_1 0) (hstage0_1 0) (stage0_2 0) (hstage0_2 0) (stage0_3 0) (hstage0_3 0)
    (stage0_4 0) (hstage0_4 0) (stage0_5 0) (hstage0_5 0) (stage0_6 0) (hstage0_6 0) (stage0_7 0) (hstage0_7 0)
    (stage0_8 0) (hstage0_8 0) (stage0_9 0) (hstage0_9 0) _ _ _ f3 f4 f5 f6 f7 f8 f9 (xs V c) (ws V c) (bs V c) rfl rfl rfl Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  unfold reads
  iintro ⟨H0, H1, H2, ⟨%g3, %hg3, H3⟩, ⟨%g4, %hg4, H4⟩, ⟨%g5, %hg5, H5⟩, ⟨%g6, %hg6, H6⟩, ⟨%g7, %hg7, H7⟩, ⟨%g8, %hg8, H8⟩, ⟨%g9, %hg9, H9⟩⟩
  isplitl [HΦ]; · iexact HΦ
  isplitl [Howes]; · iexact Howes
  isplitl [H0]; · iexists _; isplitr; swap; (· iexact H0); ipureintro; rfl
  isplitl [H1]; · iexists _; isplitr; swap; (· iexact H1); ipureintro; rfl
  isplitl [H2]; · iexists _; isplitr; swap; (· iexact H2); ipureintro; rfl
  isplitl [H3]; · iexists _; isplitr; swap; (· iexact H3); ipureintro; exact hg3
  isplitl [H4]; · iexists _; isplitr; swap; (· iexact H4); ipureintro; exact hg4
  isplitl [H5]; · iexists _; isplitr; swap; (· iexact H5); ipureintro; exact hg5
  isplitl [H6]; · iexists _; isplitr; swap; (· iexact H6); ipureintro; exact hg6
  isplitl [H7]; · iexists _; isplitr; swap; (· iexact H7); ipureintro; exact hg7
  isplitl [H8]; · iexists _; isplitr; swap; (· iexact H8); ipureintro; exact hg8
  iexists _; isplitr; swap; (· iexact H9); ipureintro; exact hg9

/-! ### The arrays after the region -/

theorem arr_in (c : Dev nD) (w : Fin cfg0.W) (hw : (cfg0.win w).isOut = false) :
    (dat V c).arrAt w cfg0.N = V c (Proc.devRef .tc (Pipeline.arrRef spec0 w)) := (dat V c).arrAt_in w hw _

theorem arr_3 (c : Dev nD) : (dat V c).arrAt 3 cfg0.N = pos0 (xs V c) (ws V c) (bs V c) := by
  refine (dat V c).arrAt_eq_of_after_last 3 t0_0 (by decide +kernel) _ fun j => ?_
  rfl
theorem arr_4 (c : Dev nD) : (dat V c).arrAt 4 cfg0.N = pos1 (xs V c) (ws V c) (bs V c) := by
  refine (dat V c).arrAt_eq_of_after_last 4 t0_0 (by decide +kernel) _ fun j => ?_
  rfl
theorem arr_5 (c : Dev nD) : (dat V c).arrAt 5 cfg0.N = gate0 (xs V c) (ws V c) (bs V c) := by
  refine (dat V c).arrAt_eq_of_after_last 5 t0_0 (by decide +kernel) _ fun j => ?_
  rfl
theorem arr_6 (c : Dev nD) : (dat V c).arrAt 6 cfg0.N = gate1 (xs V c) (ws V c) (bs V c) := by
  refine (dat V c).arrAt_eq_of_after_last 6 t0_0 (by decide +kernel) _ fun j => ?_
  rfl
theorem arr_7 (c : Dev nD) : (dat V c).arrAt 7 cfg0.N = tileExpert (xs V c) (ws V c) (bs V c) := by
  refine (dat V c).arrAt_eq_of_after_last 7 t0_0 (by decide +kernel) _ fun j => ?_
  rfl
theorem arr_8 (c : Dev nD) : (dat V c).arrAt 8 cfg0.N = tileRow (xs V c) (ws V c) (bs V c) := by
  refine (dat V c).arrAt_eq_of_after_last 8 t0_0 (by decide +kernel) _ fun j => ?_
  rfl
theorem arr_9 (c : Dev nD) : (dat V c).arrAt 9 cfg0.N = tilesUsed (xs V c) (ws V c) (bs V c) := by
  refine (dat V c).arrAt_eq_of_after_last 9 t0_0 (by decide +kernel) _ fun j => ?_
  rfl

end Cert.Proof.Router

end
-- ==== Proof.Ffn.lean ====
/-
  The expert call's body: its run at one grid point, from its buffers held whole.  At a point below the number of
  tiles in use the body gathers the tile's rows, runs them through the expert's two layers, and puts the result into
  the output (stored at the first point, added at a later one); at any other point it does nothing.
-/
module

public import proofs.«01_k».proof.Proof.Router

@[expose] public section

set_option maxRecDepth 16384

noncomputable section

namespace Cert.Proof.Ffn

open Cert.KernelIdeal Cert.KernelIdeal.Gen Cert.Proof.Router

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

theorem one_size (a : Fin S1.rank) : 0 < S1.size a := by fin_cases a; exact Nat.one_pos

/-- The one entry of a table of one word. -/
def word (n : Vec F S1 .i32) : BitVec 32 := n fun a => ⟨0, one_size a⟩

theorem coord_lt (i : grid1.Coords) (a : Fin S32.rank) : (i 0).val < S32.size a := by
  fin_cases a; exact lt_of_lt_of_le (i 0).isLt (show 24 ≤ 32 by decide)

/-- Entry `i` of a table of 32 words, `i` a grid point. -/
def entry (r : Vec F S32 .i32) (i : grid1.Coords) : BitVec 32 := r fun a => ⟨(i 0).val, coord_lt i a⟩

/-- The rows of one tile through one expert's layers. -/
def tile (row : BitVec 32) (p0 p1 : Vec F S1x2048 .i32) (x : Vec F S2048x768 .f32) (w1 : Vec F S1x768x3072 .f32)
    (b1 : Vec F S1x1x3072 .f32) (w2 : Vec F S1x3072x768 .f32) (b2 : Vec F S1x1x768 .f32) : FVec F S256x768 .f32 :=
  k1_pay3 (F := F) row p0 p1 x w1 b1 w2 b2

/-- What one tile contributes to the output: its rows scattered to their tokens, times the gates. -/
def scattered (row : BitVec 32) (y : FVec F S256x768 .f32) (q0 q1 : Vec F S2048x1 .i32) (g0 g1 : Vec F S2048x1 .f32) : Vec F S2048x768 .f32 :=
  k1_pay1 (Scalar.muli row 256#32) y (iota .tc S2048x256 32 [1] iota_S2048x256_d1_w32) q0 g0 q1 g1

/-- The output buffer after a point: at a tile in use the contribution at the first point, the sum at a later one. -/
def stepped (i : grid1.Coords) (nu : BitVec 32) (s z : Vec F S2048x768 .f32) : Vec F S2048x768 .f32 :=
  if k1_cond1 i nu = 1#1 then (if (i 0).val = 0 then s else addf (shapeCast S2048x768 z shapeCasts_S2048x768_S2048x768) s) else z

theorem cond2_iff : ∀ i : grid1.Coords, k1_cond2 i = 1#1 ↔ (i 0).val = 0 := by decide +kernel
theorem cond3_iff : ∀ i : grid1.Coords, k1_cond3 i = 1#1 ↔ ¬ (i 0).val = 0 := by decide +kernel
theorem off2_val : ∀ i : grid1.Coords, k1_off2 i 0 = (i 0).val := by decide +kernel

set_option maxHeartbeats 400000 in
theorem ffn_run (c : Dev nD) (i : grid1.Coords)
    (M1 : Memref sig .tc .smem S32 .i32) (h1 : M1.IsWhole)
    (M2 : Memref sig .tc .smem S32 .i32) (h2 : M2.IsWhole)
    (M3 : Memref sig .tc .smem S1 .i32) (h3 : M3.IsWhole)
    (M4 : Memref sig .tc .vmem S2048x768 .f32) (h4 : M4.IsWhole)
    (M5 : Memref sig .tc .vmem S1x2048 .i32) (h5 : M5.IsWhole)
    (M6 : Memref sig .tc .vmem S1x2048 .i32) (h6 : M6.IsWhole)
    (M7 : Memref sig .tc .vmem S2048x1 .i32) (h7 : M7.IsWhole)
    (M8 : Memref sig .tc .vmem S2048x1 .i32) (h8 : M8.IsWhole)
    (M9 : Memref sig .tc .vmem S2048x1 .f32) (h9 : M9.IsWhole)
    (M10 : Memref sig .tc .vmem S2048x1 .f32) (h10 : M10.IsWhole)
    (M11 : Memref sig .tc .vmem S1x768x3072 .f32) (h11 : M11.IsWhole)
    (M12 : Memref sig .tc .vmem S1x1x3072 .f32) (h12 : M12.IsWhole)
    (M13 : Memref sig .tc .vmem S1x3072x768 .f32) (h13 : M13.IsWhole)
    (M14 : Memref sig .tc .vmem S1x1x768 .f32) (h14 : M14.IsWhole)
    (M15 : Memref sig .tc .vmem S2048x768 .f32) (h15 : M15.IsWhole)
    (f2 : Bf (F := F) c M2) (f3 : Bf (F := F) c M3) (f4 : Bf (F := F) c M4) (f5 : Bf (F := F) c M5) (f6 : Bf (F := F) c M6)
    (f7 : Bf (F := F) c M7) (f8 : Bf (F := F) c M8) (f9 : Bf (F := F) c M9) (f10 : Bf (F := F) c M10) (f11 : Bf (F := F) c M11)
    (f12 : Bf (F := F) c M12) (f13 : Bf (F := F) c M13) (f14 : Bf (F := F) c M14) (f15 : Bf (F := F) c M15)
    (r : Vec F S32 .i32) (n : Vec F S1 .i32) (x : Vec F S2048x768 .f32) (p0 p1 : Vec F S1x2048 .i32)
    (q0 q1 : Vec F S2048x1 .i32) (g0 g1 : Vec F S2048x1 .f32) (w1 : Vec F S1x768x3072 .f32) (b1 : Vec F S1x1x3072 .f32)
    (w2 : Vec F S1x3072x768 .f32) (b2 : Vec F S1x1x768 .f32) (z : Vec F S2048x768 .f32)
    (hr : M2.view.read (Elt F) f2 = r) (hn : M3.view.read (Elt F) f3 = n) (hx : M4.view.read (Elt F) f4 = x)
    (hp0 : M5.view.read (Elt F) f5 = p0) (hp1 : M6.view.read (Elt F) f6 = p1) (hq0 : M7.view.read (Elt F) f7 = q0)
    (hq1 : M8.view.read (Elt F) f8 = q1) (hg0 : M9.view.read (Elt F) f9 = g0) (hg1 : M10.view.read (Elt F) f10 = g1)
    (hw1 : M11.view.read (Elt F) f11 = w1) (hb1 : M12.view.read (Elt F) f12 = b1) (hw2 : M13.view.read (Elt F) f13 = w2)
    (hb2 : M14.view.read (Elt F) f14 = b2) (hz : M15.view.read (Elt F) f15 = z)
    (E : Set ℕ) (Q : PUnit → sProp 𝕄) :
    iprop(pt c M2 f2 ∗ pt c M3 f3 ∗ pt c M4 f4 ∗ pt c M5 f5 ∗ pt c M6 f6 ∗ pt c M7 f7 ∗ pt c M8 f8 ∗ pt c M9 f9 ∗ pt c M10 f10
      ∗ pt c M11 f11 ∗ pt c M12 f12 ∗ pt c M13 f13 ∗ pt c M14 f14 ∗ pt c M15 f15
      ∗ (iprop(pt c M2 f2 ∗ pt c M3 f3 ∗ pt c M4 f4 ∗ pt c M5 f5 ∗ pt c M6 f6 ∗ pt c M7 f7 ∗ pt c M8 f8 ∗ pt c M9 f9 ∗ pt c M10 f10
          ∗ pt c M11 f11 ∗ pt c M12 f12 ∗ pt c M13 f13 ∗ pt c M14 f14
          ∗ reads c M15 (stepped i (word n) (scattered (entry r i) (tile (entry r i) p0 p1 x w1 b1 w2 b2) q0 q1 g0 g1) z)) -∗ Q ⟨⟩))
      ⊢ wp frame (wpE (defs₀ (F := F)) Variants.none c none) E
          (cc1__ffn_body i M1 h1 M2 h2 M3 h3 M4 h4 M5 h5 M6 h6 M7 h7 M8 h8 M9 h9 M10 h10 M11 h11 M12 h12 M13 h13 M14 h14 M15 h15) Q := by
  rw [cc1__ffn_body_eq_skeleton]; unfold cc1__ffn_body_skel
  simp only [k1_part1_eq_skeleton]
  unfold k1_part1_skel
  have en : (M3.access (Rect.unit (s := S1) ![0] S1.size inb_S1_S1_0)).read (Elt F) f3 (Shape.Idx.first (numel1_S1.symm ▸ Nat.one_pos)) = word n := by
    subst hn
    refine congrArg (fun j => M3.view.read (Elt F) f3 j) (funext fun a => Fin.ext ?_)
    fin_cases a; rfl
  simp only [smemLoad]
  iintro ⟨H2, H3, H4, H5, H6, H7, H8, H9, H10, H11, H12, H13, H14, H15, Hk⟩
  sl_exec!
  sl_step
  iapply Hk
  unfold reads
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  iexists _; isplitr; swap; (· iexact H15); ipureintro
  have e4 : M4.view.readAt (Elt F) (Rect.unit (s := S2048x768) ![0, 0] S2048x768.size inb_S2048x768_S2048x768_0_0).toLoadRect f4 = x :=
    (View.readAt_full _ _ _).trans hx
  have e5 : M5.view.readAt (Elt F) (Rect.unit (s := S1x2048) ![0, 0] S1x2048.size inb_S1x2048_S1x2048_0_0).toLoadRect f5 = p0 :=
    (View.readAt_full _ _ _).trans hp0
  have e6 : M6.view.readAt (Elt F) (Rect.unit (s := S1x2048) ![0, 0] S1x2048.size inb_S1x2048_S1x2048_0_0).toLoadRect f6 = p1 :=
    (View.readAt_full _ _ _).trans hp1
  have e7 : M7.view.readAt (Elt F) (Rect.unit (s := S2048x1) ![0, 0] S2048x1.size inb_S2048x1_S2048x1_0_0).toLoadRect f7 = q0 :=
    (View.readAt_full _ _ _).trans hq0
  have e8 : M8.view.readAt (Elt F) (Rect.unit (s := S2048x1) ![0, 0] S2048x1.size inb_S2048x1_S2048x1_0_0).toLoadRect f8 = q1 :=
    (View.readAt_full _ _ _).trans hq1
  have e9 : M9.view.readAt (Elt F) (Rect.unit (s := S2048x1) ![0, 0] S2048x1.size inb_S2048x1_S2048x1_0_0).toLoadRect f9 = g0 :=
    (View.readAt_full _ _ _).trans hg0
  have e10 : M10.view.readAt (Elt F) (Rect.unit (s := S2048x1) ![0, 0] S2048x1.size inb_S2048x1_S2048x1_0_0).toLoadRect f10 = g1 :=
    (View.readAt_full _ _ _).trans hg1
  have e11 : M11.view.readAt (Elt F) (Rect.unit (s := S1x768x3072) ![0, 0, 0] S1x768x3072.size inb_S1x768x3072_S1x768x3072_0_0_0).toLoadRect f11 = w1 :=
    (View.readAt_full _ _ _).trans hw1
  have e12 : M12.view.readAt (Elt F) (Rect.unit (s := S1x1x3072) ![0, 0, 0] S1x1x3072.size inb_S1x1x3072_S1x1x3072_0_0_0).toLoadRect f12 = b1 :=
    (View.readAt_full _ _ _).trans hb1
  have e13 : M13.view.readAt (Elt F) (Rect.unit (s := S1x3072x768) ![0, 0, 0] S1x3072x768.size inb_S1x3072x768_S1x3072x768_0_0_0).toLoadRect f13 = w2 :=
    (View.readAt_full _ _ _).trans hw2
  have e14 : M14.view.readAt (Elt F) (Rect.unit (s := S1x1x768) ![0, 0, 0] S1x1x768.size inb_S1x1x768_S1x1x768_0_0_0).toLoadRect f14 = b2 :=
    (View.readAt_full _ _ _).trans hb2
  have e15 : M15.view.readAt (Elt F) (Rect.unit (s := S2048x768) ![0, 0] S2048x768.size inb_S2048x768_S2048x768_0_0).toLoadRect f15 = z :=
    (View.readAt_full _ _ _).trans hz
  simp only at e4 e5 e6 e7 e8 e9 e10 e11 e12 e13 e14 e15
  have ev : ffn_run.sl.r c M3 f3 = word n := en
  have er : ffn_run.sl.r_1 c i M2 f2 = entry r i := by
    subst hr
    refine congrArg (fun j => M2.view.read (Elt F) f2 j) (funext fun a => Fin.ext ?_)
    fin_cases a
    exact off2_val i
  unfold stepped scattered tile
  rw [ev]
  by_cases hc : k1_cond1 i (word n) = 1#1
  · rw [dif_pos hc, if_pos hc]
    by_cases h0 : (i 0).val = 0
    · rw [if_pos h0, dif_neg (fun h => (cond3_iff i).mp h h0), dif_pos ((cond2_iff i).mpr h0), View.read_writes_full]
      simp only [er, e4, e5, e6, e7, e8, e9, e10, e11, e12, e13, e14]
    · rw [if_neg h0, dif_pos ((cond3_iff i).mpr h0), View.read_writes_full]
      unfold ffn_run.sl.v71
      rw [dif_neg (fun h => h0 ((cond2_iff i).mp h))]
      simp only [er, e4, e5, e6, e7, e8, e9, e10, e11, e12, e13, e14, e15]
      rfl
  · rw [dif_neg hc, if_neg hc]; exact hz

end Cert.Proof.Ffn

end
-- ==== Proof.FfnRegion.lean ====
/-
  The expert call as a region, over any contents at entry and any admissible tables: its proof data, the output
  buffer's contents point by point, and the body's obligation from its run (Ffn.lean).
-/
module

public import proofs.«01_k».proof.Proof.Ffn
public import Idealize.ShloMosaic.Lib.Pipeline.Regions
public import Idealize.ShloMosaic.Lib.Pipeline.DatRel
public import Idealize.ShloMosaic.Lib.Pipeline.ValueKit
public import Idealize.ShloMosaic.Lib.Ring

@[expose] public section

set_option maxRecDepth 16384

noncomputable section

namespace Cert.Proof.Ffn

open Cert.KernelIdeal Cert.KernelIdeal.Gen Cert.Proof.Router

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel cellOf)

variable {F : FTy → Type} [FloatOps F]

local notation "𝕄" => MT nD τ sig Unit (Elt F) ℕ UU ℕ

variable (V : (c : Dev nD) → Valuation τ sig (Elt F)) (a : (pcfg1 (F := F)).Adm)

/-- Window `w`'s block of its array at point `t`, as a fetch leaves it in the staging buffer. -/
def blockAt (c : Dev nD) (w : Fin 12) (t : Fin grid1.N) : ((cfg1 a).win w).block.Idx → Elt F ((cfg1 a).win w).elt :=
  ((cfg1 a).win w).fill (grid1.coords t) (fun _ => Classical.arbitrary _)
    ((((cfg1 a).win w).blk t).view.read (Elt F) (V c (Proc.devRef .tc (Pipeline.arrRef spec1 w))))

/-- The tables as vectors: the tile each grid point works on, and the number of tiles in use. -/
abbrev rows : Vec F S32 .i32 := a.1 1
abbrev used : Vec F S1 .i32 := a.1 2

/-- Point `t`'s contribution to the output. -/
def contrib (c : Dev nD) (t : Fin grid1.N) : Vec F S2048x768 .f32 :=
  scattered (entry (rows a) (grid1.coords t))
    (tile (entry (rows a) (grid1.coords t)) (blockAt V a c 1 t) (blockAt V a c 2 t) (blockAt V a c 0 t)
      (blockAt V a c 7 t) (blockAt V a c 8 t) (blockAt V a c 9 t) (blockAt V a c 10 t))
    (blockAt V a c 3 t) (blockAt V a c 4 t) (blockAt V a c 5 t) (blockAt V a c 6 t)

/-- The output buffer after point `n`, if it held `z` at the start. -/
def acc (c : Dev nD) (z : Vec F S2048x768 .f32) : (n : ℕ) → n < grid1.N → Vec F S2048x768 .f32
  | 0, h => stepped (grid1.coords ⟨0, h⟩) (word (used a)) (contrib V a c ⟨0, h⟩) z
  | n + 1, h => stepped (grid1.coords ⟨n + 1, h⟩) (word (used a)) (contrib V a c ⟨n + 1, h⟩) (acc c z n (Nat.lt_of_succ_lt h))

/-- The region's exact proof data: the arrays as found, each input's buffer left as fetched. -/
def dat (c : Dev nD) : Dat τ (Elt F) Unit ℕ UU ℕ (cfg1 a) c where
  A w := V c (Proc.devRef .tc (Pipeline.arrRef spec1 w))
  after w t := blockAt V a c w t
  Φ _ := iprop(Pipeline.scopedRest (Ix := Unit) (Name := ℕ) (U := UU) (Lvl := ℕ) (Val := Elt F) spec1 c
    ∗ Pipeline.prefHeld pre1 c (fun _ => fullShare) a.1)
  q _ := fullShare
  owed _ := 0

/-- The output window alone is held to a relation: what it holds after point `t` is `acc` from some contents. -/
def marked : Fin 12 → Bool := fun | 11 => true | _ => false
def Rl (c : Dev nD) : (w : Fin 12) → Fin grid1.N → (((cfg1 a).win w).block.Idx → Elt F ((cfg1 a).win w).elt) → Prop
  | 11, t, X => ∃ z, X = acc V a c z t.val t.isLt
  | _, _, _ => True

theorem owns_eq_reads (c : Dev nD) {sp : Space} {S : Shape} {e : EltTy} (M : Memref sig .tc sp S e) (hM : M.IsWhole) (X : S.Idx → Elt F e) :
    (owns (c : Thread nD τ) M fullShare X : sProp 𝕄) = reads c M X := by
  unfold owns reads
  rw [hM.set_eq_univ]

theorem fetched_eq (c : Dev nD) (w : Fin 12) (t : Fin grid1.N) (d) : (dat V a c).fetched w t d = blockAt V a c w t := by
  fin_cases w <;> rfl

theorem before_in (c : Dev nD) (w : Fin 12) (hw : ((cfg1 a).win w).isOut = false) (hl : ∀ i, (cfg1 a).idle w i = false) (t : Fin grid1.N) (d) :
    (dat V a c).before w t d = blockAt V a c w t :=
  ((dat V a c).before_in_eq_fetched w hw hl (fun _ _ _ => rfl) (fun _ => Window.cut_fill _ _ _ _) t d).trans (fetched_eq V a c w t d)

theorem flush_11 (t : Fin grid1.N) : ((cfg1 a).win 11).flush t = true ↔ t.val % 24 = 23 :=
  Window.flush_const ((cfg1 a).win 11) rfl (fun _ _ => rfl) N_1 rfl t

/-- What the body finds in the output's buffer: anything at the first point, and at a later one what `acc` has there. -/
theorem finds_out (c : Dev nD) (t : Fin grid1.N) (h0 : t.val ≠ 0) (Y)
    (h : ((dat V a c).toRRel marked (Rl V a c)).Finds 11 t Y) : ∃ z, Y = acc V a c z (t.val - 1) (Nat.lt_of_le_of_lt (Nat.sub_le _ _) t.isLt) := by
  rw [RDat.finds_of_pos _ (((cfg1 a).win 11).fetch_out rfl t) h0] at h
  rcases h with h | h
  · rw [flush_11] at h
    exfalso
    have hlt : t.val < 24 := lt_of_lt_of_eq t.isLt N_1
    simp only at h
    omega
  · exact Dat.toRRel_leaves _ rfl h

theorem acc_step (c : Dev nD) (t : Fin grid1.N) (Y) (h : ((dat V a c).toRRel marked (Rl V a c)).Finds 11 t Y) :
    Rl V a c 11 t (stepped (grid1.coords t) (word (used a)) (contrib V a c t) Y) := by
  obtain ⟨n, hn⟩ := t
  cases n with
  | zero => exact ⟨Y, rfl⟩
  | succ n =>
    obtain ⟨z, rfl⟩ := finds_out V a c _ (Nat.succ_ne_zero n) Y h
    exact ⟨z, rfl⟩

/-- An input's buffer as the body finds it and as it leaves it. -/
def inPre (c : Dev nD) (w : Fin 12) (t : Fin grid1.N) : sProp 𝕄 :=
  iprop(∃ d, owns (c : Thread nD τ) (((cfg1 a).win w).stage ((cfg1 a).slots t w)) fullShare ((dat V a c).before w t d))
def inPost (c : Dev nD) (w : Fin 12) (t : Fin grid1.N) : sProp 𝕄 :=
  owns (c : Thread nD τ) (((cfg1 a).win w).stage ((cfg1 a).slots t w)) fullShare (blockAt V a c w t)

theorem inPre_reads (c : Dev nD) (w : Fin 12) (hw : ((cfg1 a).win w).isOut = false) (hl : ∀ i, (cfg1 a).idle w i = false) (t : Fin grid1.N) :
    inPre V a c w t ⊢ reads c (((cfg1 a).win w).stage ((cfg1 a).slots t w)) (blockAt V a c w t) := by
  have e : ∀ d, (owns (c : Thread nD τ) (((cfg1 a).win w).stage ((cfg1 a).slots t w)) fullShare ((dat V a c).before w t d) : sProp 𝕄)
      = reads c (((cfg1 a).win w).stage ((cfg1 a).slots t w)) (blockAt V a c w t) := fun d => by
    rw [before_in V a c w hw hl]; exact owns_eq_reads c _ (stage_whole1 w _) _
  unfold inPre
  iintro ⟨%d, H⟩
  iapply (Entails.of_eq (e d))
  iexact H

theorem inPost_reads (c : Dev nD) (w : Fin 12) (t : Fin grid1.N) :
    inPost V a c w t = reads c (((cfg1 a).win w).stage ((cfg1 a).slots t w)) (blockAt V a c w t) :=
  owns_eq_reads c _ (stage_whole1 w _) _

/-- The output's. -/
def outPre (c : Dev nD) (t : Fin grid1.N) : sProp 𝕄 :=
  iprop(∃ Y, ⌜((dat V a c).toRRel marked (Rl V a c)).Finds 11 t Y⌝ ∗ owns (c : Thread nD τ) (((cfg1 a).win 11).stage ((cfg1 a).slots t 11)) fullShare Y)
def outPost (c : Dev nD) (t : Fin grid1.N) : sProp 𝕄 :=
  iprop(∃ X, ⌜Rl V a c 11 t X⌝ ∗ owns (c : Thread nD τ) (((cfg1 a).win 11).stage ((cfg1 a).slots t 11)) fullShare X)

theorem outPost_reads (c : Dev nD) (t : Fin grid1.N) :
    outPost V a c t = iprop(∃ X, ⌜Rl V a c 11 t X⌝ ∗ reads c (stage1_11 ((cfg1 a).slots t 11)) X) := by
  unfold outPost
  refine congrArg _ (funext fun X => ?_)
  exact congrArg _ (owns_eq_reads c _ (stage_whole1 11 _) X)

/-- Everything held at a point, before the body and after it. -/
def heldPre (c : Dev nD) (t : Fin grid1.N) : sProp 𝕄 := iprop(inPre V a c 0 t ∗ inPre V a c 1 t ∗ inPre V a c 2 t ∗ inPre V a c 3 t ∗ inPre V a c 4 t ∗ inPre V a c 5 t ∗ inPre V a c 6 t ∗ inPre V a c 7 t ∗ inPre V a c 8 t ∗ inPre V a c 9 t ∗ inPre V a c 10 t ∗ outPre V a c t)
def heldPost (c : Dev nD) (t : Fin grid1.N) : sProp 𝕄 := iprop(inPost V a c 0 t ∗ inPost V a c 1 t ∗ inPost V a c 2 t ∗ inPost V a c 3 t ∗ inPost V a c 4 t ∗ inPost V a c 5 t ∗ inPost V a c 6 t ∗ inPost V a c 7 t ∗ inPost V a c 8 t ∗ inPost V a c 9 t ∗ inPost V a c 10 t ∗ outPost V a c t)

set_option maxHeartbeats 800000 in
theorem run_point (c : Dev nD) (t : Fin grid1.N) :
    iprop((dat V a c).Φ t.castSucc ∗ (dat V a c).owesAt () t.castSucc ∗ heldPre V a c t)
      ⊢ wp frame (wpE (defs₀ (F := F)) Variants.none c none) Set.univ
          (defs₀ .tc (cfg1 a).body ((cfg1 a).bodyArgs t ((cfg1 a).slots t)))
          fun _ => iprop((dat V a c).Φ t.succ ∗ (dat V a c).owesAt () t.succ ∗ heldPost V a c t) := by
  rw [show (dat V a c).Φ t.succ = (dat V a c).Φ t.castSucc from rfl,
    show (dat V a c).owesAt () t.succ = (dat V a c).owesAt () t.castSucc from rfl,
    show (dat V a c).Φ t.castSucc = iprop(Pipeline.scopedRest (Ix := Unit) (Name := ℕ) (U := UU) (Lvl := ℕ) (Val := Elt F) spec1 c
      ∗ Pipeline.prefHeld pre1 c (fun _ => fullShare) a.1) from rfl]
  have eo : ∀ X, (owns (c : Thread nD τ) (((cfg1 a).win 11).stage ((cfg1 a).slots t 11)) fullShare X : sProp 𝕄)
      = reads c (stage1_11 ((cfg1 a).slots t 11)) X := fun X => owns_eq_reads c _ (stage_whole1 11 _) X
  unfold heldPre heldPost outPre Pipeline.prefHeld
  simp only [inPost_reads, outPost_reads]
  simp only [eo]
  have hT : (bigSep Finset.univ fun k => ((c : Thread nD τ).loc (pre1.ref k)) ↦{fullShare} a.1 k : sProp 𝕄)
      = iprop(((((c : Thread nD τ).loc (pre1.ref 0)) ↦{fullShare} (a.1 0))) ∗ pt c (Memref.whole main_v6) (a.1 1) ∗ pt c (Memref.whole main_v7) (a.1 2)) := Ring.bigSep_fin3 _
  rw [hT]
  iintro ⟨⟨HΦ, T1, T2, T3⟩, Howes, H0, H1, H2, H3, H4, H5, H6, H7, H8, H9, H10, ⟨%Y, %hY, H11⟩⟩
  ihave H0 := (inPre_reads V a c 0 rfl (fun _ => rfl) t) $$ H0
  ihave H1 := (inPre_reads V a c 1 rfl (fun _ => rfl) t) $$ H1
  ihave H2 := (inPre_reads V a c 2 rfl (fun _ => rfl) t) $$ H2
  ihave H3 := (inPre_reads V a c 3 rfl (fun _ => rfl) t) $$ H3
  ihave H4 := (inPre_reads V a c 4 rfl (fun _ => rfl) t) $$ H4
  ihave H5 := (inPre_reads V a c 5 rfl (fun _ => rfl) t) $$ H5
  ihave H6 := (inPre_reads V a c 6 rfl (fun _ => rfl) t) $$ H6
  ihave H7 := (inPre_reads V a c 7 rfl (fun _ => rfl) t) $$ H7
  ihave H8 := (inPre_reads V a c 8 rfl (fun _ => rfl) t) $$ H8
  ihave H9 := (inPre_reads V a c 9 rfl (fun _ => rfl) t) $$ H9
  ihave H10 := (inPre_reads V a c 10 rfl (fun _ => rfl) t) $$ H10
  unfold reads
  icases H0 with ⟨%f0, %hf0, H0⟩
  icases H1 with ⟨%f1, %hf1, H1⟩
  icases H2 with ⟨%f2, %hf2, H2⟩
  icases H3 with ⟨%f3, %hf3, H3⟩
  icases H4 with ⟨%f4, %hf4, H4⟩
  icases H5 with ⟨%f5, %hf5, H5⟩
  icases H6 with ⟨%f6, %hf6, H6⟩
  icases H7 with ⟨%f7, %hf7, H7⟩
  icases H8 with ⟨%f8, %hf8, H8⟩
  icases H9 with ⟨%f9, %hf9, H9⟩
  icases H10 with ⟨%f10, %hf10, H10⟩
  icases H11 with ⟨%f11, %hf11, H11⟩
  iapply (ffn_run c (grid1.coords t) (Memref.whole main_v5) (Memref.isWhole_whole _) (Memref.whole main_v6) (Memref.isWhole_whole _) (Memref.whole main_v7) (Memref.isWhole_whole _)
    (stage1_0 ((cfg1 a).slots t 0)) (stage_whole1 0 _)
    (stage1_1 ((cfg1 a).slots t 1)) (stage_whole1 1 _)
    (stage1_2 ((cfg1 a).slots t 2)) (stage_whole1 2 _)
    (stage1_3 ((cfg1 a).slots t 3)) (stage_whole1 3 _)
    (stage1_4 ((cfg1 a).slots t 4)) (stage_whole1 4 _)
    (stage1_5 ((cfg1 a).slots t 5)) (stage_whole1 5 _)
    (stage1_6 ((cfg1 a).slots t 6)) (stage_whole1 6 _)
    (stage1_7 ((cfg1 a).slots t 7)) (stage_whole1 7 _)
    (stage1_8 ((cfg1 a).slots t 8)) (stage_whole1 8 _)
    (stage1_9 ((cfg1 a).slots t 9)) (stage_whole1 9 _)
    (stage1_10 ((cfg1 a).slots t 10)) (stage_whole1 10 _)
    (stage1_11 ((cfg1 a).slots t 11)) (stage_whole1 11 _)
    (a.1 1) (a.1 2) f0 f1 f2 f3 f4 f5 f6 f7 f8 f9 f10 f11 (rows a) (used a) (blockAt V a c 0 t) (blockAt V a c 1 t) (blockAt V a c 2 t) (blockAt V a c 3 t) (blockAt V a c 4 t) (blockAt V a c 5 t) (blockAt V a c 6 t) (blockAt V a c 7 t) (blockAt V a c 8 t) (blockAt V a c 9 t) (blockAt V a c 10 t) Y rfl rfl hf0 hf1 hf2 hf3 hf4 hf5 hf6 hf7 hf8 hf9 hf10 hf11 Set.univ _)
  isplitl [T2]; · iexact T2
  isplitl [T3]; · iexact T3
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  unfold reads
  iintro ⟨T2, T3, H0, H1, H2, H3, H4, H5, H6, H7, H8, H9, H10, ⟨%g, %hg, H11⟩⟩
  isplitl [HΦ T1 T2 T3]
  · isplitl [HΦ]; · iexact HΦ
    isplitl [T1]; · iexact T1
    isplitl [T2]; · iexact T2
    iexact T3
  isplitl [Howes]; · iexact Howes
  isplitl [H0]; · iexists f0; isplitr; swap; (· iexact H0); ipureintro; exact hf0
  isplitl [H1]; · iexists f1; isplitr; swap; (· iexact H1); ipureintro; exact hf1
  isplitl [H2]; · iexists f2; isplitr; swap; (· iexact H2); ipureintro; exact hf2
  isplitl [H3]; · iexists f3; isplitr; swap; (· iexact H3); ipureintro; exact hf3
  isplitl [H4]; · iexists f4; isplitr; swap; (· iexact H4); ipureintro; exact hf4
  isplitl [H5]; · iexists f5; isplitr; swap; (· iexact H5); ipureintro; exact hf5
  isplitl [H6]; · iexists f6; isplitr; swap; (· iexact H6); ipureintro; exact hf6
  isplitl [H7]; · iexists f7; isplitr; swap; (· iexact H7); ipureintro; exact hf7
  isplitl [H8]; · iexists f8; isplitr; swap; (· iexact H8); ipureintro; exact hf8
  isplitl [H9]; · iexists f9; isplitr; swap; (· iexact H9); ipureintro; exact hf9
  isplitl [H10]; · iexists f10; isplitr; swap; (· iexact H10); ipureintro; exact hf10
  iexists _; isplitr; swap
  · iexists g; isplitr; swap; (· iexact H11); ipureintro; exact hg
  · ipureintro; exact acc_step V a c t Y hY

theorem body_obligation (c : Dev nD) :
    BodyObligationRel (dat V a c) (defs₀ (F := F)) Variants.none () Set.univ marked (Rl V a c) := fun t => by
  refine BI.Entails.trans (Q := iprop((dat V a c).Φ t.castSucc ∗ (dat V a c).owesAt () t.castSucc ∗ heldPre V a c t)) ?_
    (BI.Entails.trans (run_point V a c t) (wp_mono _ _ _ fun x => ?_))
  · exact sep_mono .rfl (sep_mono .rfl (Entails.of_eq (bigSep_W1 _)))
  · refine sep_mono .rfl (sep_mono .rfl (Entails.of_eq (Eq.symm ?_)))
    exact bigSep_W1 _

end Cert.Proof.Ffn

end
-- ==== Proof.TileBound.lean ====
/-
  Every entry of the expert table is below 8, whatever the float values are: an entry is the lesser of two words, one of
  them a greatest column number among eight and the other a sum of zeros and ones. So every weight block the second call
  fetches lies inside its array.
-/
module

public import proofs.«01_k».proof.Proof.Router
public import Idealize.ShloMosaic.Lib.WordSum
public import Idealize.ShloMosaic.Lib.SortNet.Extract
public import Idealize.ShloMosaic.Lib.Pointwise

@[expose] public section

set_option maxRecDepth 16384

noncomputable section

namespace Cert.Proof.Router

open Cert.KernelIdeal Cert.KernelIdeal.Gen
open Idealize.ShloMosaic

variable {F : FTy → Type} [FloatOps F]

/-- A sum of zeros and ones down a column of eight is a nonnegative word. -/
theorem count_nonneg (v : IVec S8x32 1) (j : S32.Idx) :
    0 ≤ (multiReductionI .add [0] S32 (extui 32 v natLt_1_32) 0#32 reduces_S8x32_S32 rfl j).toInt := by
  have hle : ∀ i, ((extui 32 v natLt_1_32) i).toNat ≤ 1 := fun i => by
    show ((v i).zeroExtend 32).toNat ≤ 1
    have := (v i).isLt
    simp only [BitVec.truncate_eq_setWidth, BitVec.toNat_setWidth]
    omega
  have hs : ∑ i ∈ Finset.univ.filter (fun i => reduces_S8x32_S32.drop i = j), ((extui 32 v natLt_1_32) i).toNat ≤ 256 := by
    refine le_trans (Finset.sum_le_card_nsmul _ _ 1 fun i _ => hle i) ?_
    rw [smul_eq_mul, mul_one]
    refine le_trans (Finset.card_le_univ _) ?_
    have : Fintype.card S8x32.Idx = 256 := by
      rw [Shape.card_idx]; rfl
    exact this.le
  have e := WordSum.toNat_multiReductionI_add (extui 32 v natLt_1_32) reduces_S8x32_S32 rfl j (by omega)
  rw [BitVec.toInt_eq_toNat_of_lt (by rw [e]; omega)]
  exact Int.natCast_nonneg _

/-- The greatest of eight column numbers, each replaced by zero where a mask is off, is between 0 and 7. -/
theorem last_range (v : IVec S1x8 1) (j : S1.Idx) :
    0 ≤ (multiReductionI .maxsi [1] S1 (select v (iota .tc S1x8 32 [1] iota_S1x8_d1_w32) (broadcast S1x8 0#32)) 2147483648#32 reduces_S1x8_S1 rfl j).toInt
      ∧ (multiReductionI .maxsi [1] S1 (select v (iota .tc S1x8 32 [1] iota_S1x8_d1_w32) (broadcast S1x8 0#32)) 2147483648#32 reduces_S1x8_S1 rfl j).toInt < 8 := by
  have hg : ∀ i : S1x8.Idx, 0 ≤ (select v (iota .tc S1x8 32 [1] iota_S1x8_d1_w32) (broadcast S1x8 (0#32)) i).toInt
      ∧ (select v (iota .tc S1x8 32 [1] iota_S1x8_d1_w32) (broadcast S1x8 (0#32)) i).toInt < 8 := fun i => by
    show 0 ≤ (if v i = 1#1 then BitVec.ofNat 32 (0 * 8 + (i 1).val) else 0#32).toInt ∧ (if v i = 1#1 then BitVec.ofNat 32 (0 * 8 + (i 1).val) else 0#32).toInt < 8
    have h8 : (i 1).val < 8 := (i 1).isLt
    split
    · have e : (BitVec.ofNat 32 (0 * 8 + (i 1).val)).toNat = (i 1).val := by
        rw [BitVec.toNat_ofNat, Nat.mod_eq_of_lt] <;> omega
      rw [BitVec.toInt_eq_toNat_of_lt (by rw [e]; omega), e]
      omega
    · decide
  have e := multiReductionI_eq_fold .maxsi (select v (iota .tc S1x8 32 [1] iota_S1x8_d1_w32) (broadcast S1x8 0#32)) 2147483648#32 reduces_S1x8_S1 rfl j
  erw [e]
  obtain ⟨_, h2, h3⟩ := SortNet.fold_maxsi_spec (select v (iota .tc S1x8 32 [1] iota_S1x8_d1_w32) (broadcast S1x8 (0#32)))
    (Finset.univ.filter fun i => reduces_S1x8_S1.drop i = j) 2147483648#32
  have hlo := h2 (fun a => ⟨0, by fin_cases a <;> decide⟩) (Finset.mem_filter.mpr ⟨Finset.mem_univ _, by
    funext a; have := (j a).isLt; have h1 : S1.size a = 1 := by fin_cases a; rfl
    apply Fin.ext
    have := (reduces_S1x8_S1.drop (fun a => ⟨0, by fin_cases a <;> decide⟩ : S1x8.Idx) a).isLt
    omega⟩)
  have h0 := le_trans (hg _).1 hlo
  refine ⟨h0, ?_⟩
  rcases h3 with h3 | ⟨i, _, h3⟩
  · exfalso
    have h0' := h0
    erw [h3] at h0'
    revert h0'; decide
  · erw [h3]; exact (hg i).2

theorem tileExpert_lt (x : Vec F S2048x768 .f32) (wg : Vec F S768x8 .f32) (b : Vec F S1x8 .f32) (j : S1x32.Idx) :
    (tileExpert x wg b j : BitVec 32).toNat < 8 := by
  have key : ∀ p q : BitVec 32, 0 ≤ p.toInt → 0 ≤ q.toInt ∧ q.toInt < 8 → (IntOp.minsi p q).toNat < 8 := fun p q hp hq => by
    have e := SortNet.toInt_minsi p q
    have h0 : 0 ≤ (IntOp.minsi p q).toInt := by rw [e]; exact le_min hp hq.1
    have h8 : (IntOp.minsi p q).toInt < 8 := by rw [e]; exact lt_of_le_of_lt (min_le_right _ _) hq.2
    have := (IntOp.minsi p q).isLt
    rw [BitVec.toInt_eq_toNat_cond] at h0 h8
    split at h8 <;> omega
  exact key _ _ (count_nonneg _ _) (last_range _ _)

/-- Tables whose expert entries are below 8 are admissible. -/
theorem ok_of_lt (pf : pre1.Contents (Elt F)) (h : ∀ j, (pf 0 j : BitVec 32).toNat < 8) : ok1 pf := by
  refine ⟨fun i => ⟨fun a => ?_, .inl rfl⟩, fun i => ⟨fun a => ?_, .inl rfl⟩, fun i => ⟨fun a => ?_, .inl rfl⟩, fun i => ⟨fun a => ?_, .inl rfl⟩⟩
  all_goals
    fin_cases a
    · refine le_trans (Nat.mul_le_mul_right 1 (Nat.succ_le_of_lt (h _))) (le_refl 8)
    · exact Nat.le_of_eq rfl
    · exact Nat.le_of_eq rfl

end Cert.Proof.Router

end
-- ==== Proof.State.lean ====
/-
  The buffers of one core between the program's items: as launched, after the first reshapes, after the routing call and
  after the second reshapes; and what the tables hold there.
-/
module

public import proofs.«01_k».proof.Proof.RouterRegion
public import proofs.«01_k».proof.Proof.FfnRegion
public import proofs.«01_k».proof.Proof.TileBound
public import proofs.«01_k».proof.Proof.Gen.KernelIdeal.Regions
public import Idealize.ShloMosaic.Lib.Pipeline.RegionArraysS
public import Idealize.ShloMosaic.Lib.Pipeline.RegionArraysT

@[expose] public section

set_option maxRecDepth 16384

noncomputable section

namespace Cert.Proof.Launch

open Cert.KernelIdeal Cert.KernelIdeal.Gen
open Idealize.ShloMosaic Idealize.ShloMosaic.TcCoe

variable {F : FTy → Type} [FloatOps F]
variable (m : (ℓ : Loc nD τ sig) → Buf (Elt F) ℓ)

/-- After the routing call. -/
def routed (c : Dev nD) : Valuation τ sig (Elt F) := Pipeline.afterRegion (Router.dat (V1 m) c) (V1 m c)
/-- After the reshapes that follow it. -/
def entered (c : Dev nD) : Valuation τ sig (Elt F) := StableHlo.after hostOps1 (routed m c)

/-- The routing call's three inputs. -/
abbrev X (c : Dev nD) : Vec F S2048x768 .f32 := Router.xs (V1 m) c
abbrev G (c : Dev nD) : Vec F S768x8 .f32 := Router.ws (V1 m) c
abbrev B (c : Dev nD) : Vec F S1x8 .f32 := Router.bs (V1 m) c

theorem routed_out (c : Dev nD) (w : Fin cfg0.W) :
    routed m c (Proc.devRef .tc (Pipeline.arrRef spec0 w)) = (Router.dat (V1 m) c).arrAt w cfg0.N :=
  Pipeline.afterRegion_arr (Router.dat (V1 m) c) (V1 m c) winFacts0.arr_inj w

theorem routed_keeps (c : Dev nD) (r : Ref sig .tc) (h : ∀ w, Pipeline.arrRef spec0 w = r → (cfg0.win w).isOut = false) :
    routed m c (Proc.devRef .tc r) = V1 m c (Proc.devRef .tc r) :=
  Pipeline.afterRegion_keeps (Router.dat (V1 m) c) (V1 m c) winFacts0.arr_inj (fun _ => rfl) r h

theorem entered_keeps (c : Dev nD) (r : Ref sig .tc) (h : r ∉ hostOps1_W) : entered m c (Proc.devRef .tc r) = routed m c (Proc.devRef .tc r) :=
  StableHlo.after_of_writes_sub hostOps1 _ hostOps1_writes h

/-- The reshapes, over any contents. -/
theorem after_v5 (W : Valuation τ sig (Elt F)) : StableHlo.after hostOps1 W (Proc.devRef .tc main_v5) = shapeCast S32 (W (Proc.devRef .tc main_v4_4)) shapeCasts_S1x32_S32 := by
  simp only [hostOps1, StableHlo.after_cons, StableHlo.after_nil]
  rw [StableHlo.reshape_result_ne _ _ _ _ _ _ _ (show main_v5 ≠ main_v9 by decide)]
  rw [StableHlo.reshape_result_ne _ _ _ _ _ _ _ (show main_v5 ≠ main_v8 by decide)]
  rw [StableHlo.reshape_result_ne _ _ _ _ _ _ _ (show main_v5 ≠ main_v7 by decide)]
  rw [StableHlo.reshape_result_ne _ _ _ _ _ _ _ (show main_v5 ≠ main_v6 by decide)]
  rw [StableHlo.reshape_result]
  rfl
theorem after_v6 (W : Valuation τ sig (Elt F)) : StableHlo.after hostOps1 W (Proc.devRef .tc main_v6) = shapeCast S32 (W (Proc.devRef .tc main_v4_5)) shapeCasts_S1x32_S32 := by
  simp only [hostOps1, StableHlo.after_cons, StableHlo.after_nil]
  rw [StableHlo.reshape_result_ne _ _ _ _ _ _ _ (show main_v6 ≠ main_v9 by decide)]
  rw [StableHlo.reshape_result_ne _ _ _ _ _ _ _ (show main_v6 ≠ main_v8 by decide)]
  rw [StableHlo.reshape_result_ne _ _ _ _ _ _ _ (show main_v6 ≠ main_v7 by decide)]
  rw [StableHlo.reshape_result]
  rw [StableHlo.reshape_result_ne _ _ _ _ _ _ _ (show main_v4_5 ≠ main_v5 by decide)]
  rfl
theorem after_v7 (W : Valuation τ sig (Elt F)) : StableHlo.after hostOps1 W (Proc.devRef .tc main_v7) = shapeCast S1 (W (Proc.devRef .tc main_v4_6)) shapeCasts_S1x1_S1 := by
  simp only [hostOps1, StableHlo.after_cons, StableHlo.after_nil]
  rw [StableHlo.reshape_result_ne _ _ _ _ _ _ _ (show main_v7 ≠ main_v9 by decide)]
  rw [StableHlo.reshape_result_ne _ _ _ _ _ _ _ (show main_v7 ≠ main_v8 by decide)]
  rw [StableHlo.reshape_result]
  rw [StableHlo.reshape_result_ne _ _ _ _ _ _ _ (show main_v4_6 ≠ main_v6 by decide)]
  rw [StableHlo.reshape_result_ne _ _ _ _ _ _ _ (show main_v4_6 ≠ main_v5 by decide)]
  rfl
theorem after_v8 (W : Valuation τ sig (Elt F)) : StableHlo.after hostOps1 W (Proc.devRef .tc main_v8) = shapeCast S1x2048 (W (Proc.devRef .tc main_v4_0)) shapeCasts_S2048x1_S1x2048 := by
  simp only [hostOps1, StableHlo.after_cons, StableHlo.after_nil]
  rw [StableHlo.reshape_result_ne _ _ _ _ _ _ _ (show main_v8 ≠ main_v9 by decide)]
  rw [StableHlo.reshape_result]
  rw [StableHlo.reshape_result_ne _ _ _ _ _ _ _ (show main_v4_0 ≠ main_v7 by decide)]
  rw [StableHlo.reshape_result_ne _ _ _ _ _ _ _ (show main_v4_0 ≠ main_v6 by decide)]
  rw [StableHlo.reshape_result_ne _ _ _ _ _ _ _ (show main_v4_0 ≠ main_v5 by decide)]
  rfl
theorem after_v9 (W : Valuation τ sig (Elt F)) : StableHlo.after hostOps1 W (Proc.devRef .tc main_v9) = shapeCast S1x2048 (W (Proc.devRef .tc main_v4_1)) shapeCasts_S2048x1_S1x2048 := by
  simp only [hostOps1, StableHlo.after_cons, StableHlo.after_nil]
  rw [StableHlo.reshape_result]
  rw [StableHlo.reshape_result_ne _ _ _ _ _ _ _ (show main_v4_1 ≠ main_v8 by decide)]
  rw [StableHlo.reshape_result_ne _ _ _ _ _ _ _ (show main_v4_1 ≠ main_v7 by decide)]
  rw [StableHlo.reshape_result_ne _ _ _ _ _ _ _ (show main_v4_1 ≠ main_v6 by decide)]
  rw [StableHlo.reshape_result_ne _ _ _ _ _ _ _ (show main_v4_1 ≠ main_v5 by decide)]
  rfl

/-- The tables. -/
theorem entered_v5 (c : Dev nD) : entered m c (Proc.devRef .tc main_v5) = shapeCast S32 (Router.tileExpert (X m c) (G m c) (B m c)) shapeCasts_S1x32_S32 := by
  unfold entered; rw [after_v5]
  rw [(routed_out m c 7).trans (Router.arr_7 (V1 m) c)]
theorem entered_v6 (c : Dev nD) : entered m c (Proc.devRef .tc main_v6) = shapeCast S32 (Router.tileRow (X m c) (G m c) (B m c)) shapeCasts_S1x32_S32 := by
  unfold entered; rw [after_v6]
  rw [(routed_out m c 8).trans (Router.arr_8 (V1 m) c)]
theorem entered_v7 (c : Dev nD) : entered m c (Proc.devRef .tc main_v7) = shapeCast S1 (Router.tilesUsed (X m c) (G m c) (B m c)) shapeCasts_S1x1_S1 := by
  unfold entered; rw [after_v7]
  rw [(routed_out m c 9).trans (Router.arr_9 (V1 m) c)]

/-- The tables the second call prefetches (the mesh has one device). -/
def tables : pre1.Contents (Elt F) := fun k => entered m 0 (Proc.devRef .tc (pre1.ref k))

/-- They are admissible. -/
def adm1 : (pcfg1 (F := F)).Adm := ⟨tables m, Router.ok_of_lt (tables m) fun j => by
  have e : tables m 0 = shapeCast S32 (Router.tileExpert (X m 0) (G m 0) (B m 0)) shapeCasts_S1x32_S32 := entered_v5 m 0
  rw [e]
  exact Router.tileExpert_lt _ _ _ _⟩

theorem tables_eq (c : Dev nD) (k : Fin pre1.K) : (adm1 m).1 k = entered m c (Proc.devRef .tc (pre1.ref k)) := by
  have h : c = 0 := Subsingleton.elim _ _
  rw [h]; rfl

end Cert.Proof.Launch

end
-- ==== Proof.FfnExit.lean ====
/-
  What the expert call leaves in its arrays: the inputs as found, the output at `acc`'s last value from some contents.
-/
module

public import proofs.«01_k».proof.Proof.FfnRegion
public import Idealize.ShloMosaic.Lib.Pipeline.ArrRel

@[expose] public section

set_option maxRecDepth 16384

noncomputable section

namespace Cert.Proof.Ffn

open Cert.KernelIdeal Cert.KernelIdeal.Gen Cert.Proof.Router

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationRel cellOf)

variable {F : FTy → Type} [FloatOps F]

local notation "𝕄" => MT nD τ sig Unit (Elt F) ℕ UU ℕ

variable (V : (c : Dev nD) → Valuation τ sig (Elt F)) (a : (pcfg1 (F := F)).Adm)

/-- The last grid point. -/
theorem last_lt : 23 < grid1.N := by rw [N_1]; decide
def lastPoint : Fin grid1.N := ⟨23, last_lt⟩

theorem wholeAt_last : ((cfg1 a).win 11).WholeAt lastPoint := by
  refine ⟨(flush_11 a _).2 rfl, fun t ht => ?_, fun x => ?_⟩
  · have h := (flush_11 a t).1 ht
    have hlt : t.val < 24 := lt_of_lt_of_eq t.isLt N_1
    apply Fin.ext
    show t.val = 23
    omega
  · fin_cases x <;> exact ⟨rfl, rfl⟩

/-- The region's relational data. -/
abbrev rdat (c : Dev nD) : RDat τ (Elt F) Unit ℕ UU ℕ (cfg1 a) c := (dat V a c).toRRel marked (Rl V a c)

/-- An input's array is as found. -/
theorem in_of_arrAt (c : Dev nD) (w : Fin 12) (hw : ((cfg1 a).win w).isOut = false) (hm : marked w = false) (G)
    (h : (rdat V a c).ArrAt w (cfg1 a).N G) : G = V c (Proc.devRef .tc (Pipeline.arrRef spec1 w)) := by
  have e := ((dat V a c).toR.override_arrAt (by simp only [hm]) _ _).1 h
  exact (((dat V a c).toR_arrAt_iff w _ _).1 e).trans ((dat V a c).arrAt_in w hw _)

/-- The output's array is the buffer after the last point. -/
theorem out_of_arrAt (c : Dev nD) (G : Vec F S2048x768 .f32)
    (h : (rdat V a c).ArrAt 11 (cfg1 a).N G) : ∃ z, G = acc V a c z 23 last_lt := by
  obtain ⟨X, hX, hG⟩ := RDat.ArrAt.emb_eq_of_wholeAt h (wholeAt_last a)
  obtain ⟨z, hz⟩ : Rl V a c 11 lastPoint X := Dat.toRRel_leaves _ rfl hX
  refine ⟨z, funext fun j => (hG j).trans ?_⟩
  subst hz
  rfl

end Cert.Proof.Ffn

end
-- ==== Proof.Launch.lean ====
/-
  The launch, over any float values: the two calls and the three stretches of reshapes as segments of @main, and what a
  run leaves: the arguments unchanged and the result the expert call's output.
-/
module

public import proofs.«01_k».proof.Proof.State
public import proofs.«01_k».proof.Proof.FfnExit

@[expose] public section

set_option maxRecDepth 16384

noncomputable section

namespace Cert.Proof.Launch

open Cert.KernelIdeal Cert.KernelIdeal.Gen
open Cert.Proof.Router (UU)

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ UU ℕ

variable (m : (ℓ : Loc nD τ sig) → Buf (Elt F) ℓ)

abbrev 𝒱₀ : Variants := Variants.none
abbrev L (_ : GSem nD τ sig) : Finset Unit := ∅
abbrev lv (_ : GSem nD τ sig) (_ : Unit) : ℕ := 0

/-- The tables each call is pinned at: the first has none. -/
def adm : (p : Fin 2) → (pcfgs (F := F) p).Adm
  | ⟨0, _⟩ => cfg0.toPCfg_adm
  | ⟨1, _⟩ => adm1 m

/-- Each call's exact data, its marked windows and the relation they are held to. -/
def pdats : (p : Fin 2) → (c : Dev nD) → Dat τ (Elt F) Unit ℕ UU ℕ (Pipeline.pin (pcfgs (F := F)) (adm m) p) c
  | ⟨0, _⟩ => fun c => Router.dat (V1 m) c
  | ⟨1, _⟩ => fun c => Ffn.dat (entered m) (adm1 m) c

def rdats : (p : Fin 2) → (c : Dev nD) → RDat τ (Elt F) Unit ℕ UU ℕ (Pipeline.pin (pcfgs (F := F)) (adm m) p) c
  | ⟨0, _⟩ => fun c => (Router.dat (V1 m) c).toR
  | ⟨1, _⟩ => fun c => Ffn.rdat (entered m) (adm1 m) c

/-- What rides beside the buffers: the core owes nothing. -/
abbrev R (c : Dev nD) : sProp 𝕄 := iprop(∃ W, owes (c : Thread nD τ) (0 : CellTallies nD τ sig Unit) W)

/-- Every unscoped buffer of the core. -/
abbrev bufs (c : Dev nD) (W : Valuation τ sig (Elt F)) : sProp 𝕄 := StableHlo.held (c : Thread nD τ) (Pipeline.ucRefs τ sig) W

def seg0 : Pipeline.HostSeg (Name := ℕ) (U := UU) (pcfgs (F := F)) defs₀ 𝒱₀ L lv :=
  Pipeline.HostSeg.ofOps _ _ _ _ _ (Pipeline.ucRefs τ sig) hostOps0
    (fun op h => Pipeline.sub_ucRefs op ((List.forall_iff_forall_mem.mp hostOps0_sub) op h))
    (fun op h => (List.forall_iff_forall_mem.mp hostOps0_fresh) op h) (V0 m) R

def seg1 : Pipeline.HostSeg (Name := ℕ) (U := UU) (pcfgs (F := F)) defs₀ 𝒱₀ L lv :=
  Pipeline.HostSeg.ofOps _ _ _ _ _ (Pipeline.ucRefs τ sig) hostOps1
    (fun op h => Pipeline.sub_ucRefs op ((List.forall_iff_forall_mem.mp hostOps1_sub) op h))
    (fun op h => (List.forall_iff_forall_mem.mp hostOps1_fresh) op h) (routed m) R

/-- The buffers after the second call, its output's buffer having held `z` at first. -/
def left (z : Vec F S2048x768 .f32) (c : Dev nD) : Valuation τ sig (Elt F) :=
  Function.update (entered m c) (Proc.devRef .tc main_v10) (Ffn.acc (entered m) (adm1 m) c z 23 Ffn.last_lt)

set_option backward.isDefEq.respectTransparency.types false in
/-- The reshape at the end, from whichever contents the second call left. -/
def seg2 : Pipeline.HostSeg (Name := ℕ) (U := UU) (pcfgs (F := F)) defs₀ 𝒱₀ L lv where
  prog := StableHlo.seq hostOps2
  pre c := iprop((∃ z, bufs c (left m z c)) ∗ R c)
  post c := iprop((∃ z, bufs c (StableHlo.after hostOps2 (left m z c))) ∗ R c)
  run c {β} k K := by
    iintro ⟨Hk, Hbd, ⟨⟨%z, Hh⟩, HR⟩, -⟩
    have hseq := StableHlo.wp_seq (defs := Pipeline.defs (pcfgs (F := F)) defs₀) (Variants.lift 𝒱₀) none Set.univ c
      (Pipeline.ucRefs τ sig) k (K := K) hostOps2
      (fun op h => Pipeline.sub_ucRefs op ((List.forall_iff_forall_mem.mp hostOps2_sub) op h))
      (fun op h => (List.forall_iff_forall_mem.mp hostOps2_fresh) op h) (left m z c)
    iapply hseq $$ [Hbd Hh]
    · isplitl [Hbd] <;> iassumption
    iintro ⟨Hbd, Hh⟩
    iapply Hk
    isplitl [Hbd]; · iexact Hbd
    isplitl [Hh]; · iexists z; iexact Hh
    iexact HR

theorem arrays0 (c : Dev nD) (G : (w : Fin cfg0.W) → Buf (Elt F) ((cfg0.win w).arr.view.loc (c.tc : Thread nD τ))) (W : Valuation τ sig (Elt F))
    (hG : ∀ w, G w = W (Proc.devRef .tc (Pipeline.arrRef spec0 w))) :
    ((Router.dat (V1 m) c).arrays G : sProp 𝕄) = StableHlo.held (c : Thread nD τ) (Pipeline.arrRefs spec0) W :=
  Pipeline.arrays_held (pcfgs (F := F)) (adm m) (pdats m) 0 launch0 c ((Router.dat (V1 m) c).share_full fun _ => rfl) G W hG

theorem arrays1 (c : Dev nD) (G : (w : Fin 12) → Buf (Elt F) (((cfg1 (adm1 m)).win w).arr.view.loc (c.tc : Thread nD τ))) (W : Valuation τ sig (Elt F))
    (hG : ∀ w, G w = W (Proc.devRef .tc (Pipeline.arrRef spec1 w))) :
    ((Ffn.dat (entered m) (adm1 m) c).arrays G : sProp 𝕄) = StableHlo.held (c : Thread nD τ) (Pipeline.arrRefs spec1) W :=
  Pipeline.arrays_held (pcfgs (F := F)) (adm m) (pdats m) 1 launch1 c ((Ffn.dat (entered m) (adm1 m) c).share_full fun _ => rfl) G W hG

theorem split0 (c : Dev nD) (W : Valuation τ sig (Elt F)) :
    (bufs c W : sProp 𝕄) = iprop(StableHlo.held (c : Thread nD τ) (Pipeline.arrRefs spec0) W
      ∗ StableHlo.held (c : Thread nD τ) (Pipeline.ucRefs τ sig \ Pipeline.arrRefs spec0) W) :=
  StableHlo.held_sub_split (c : Thread nD τ) (Pipeline.arrRefs_sub_ucRefs spec0 winFacts0.arr_unscoped) W

theorem rest0 (c : Dev nD) :
    (StableHlo.held (c : Thread nD τ) (Pipeline.ucRefs τ sig \ Pipeline.arrRefs spec0) (V1 m c) : sProp 𝕄)
      = StableHlo.held (c : Thread nD τ) (Pipeline.ucRefs τ sig \ Pipeline.arrRefs spec0) (routed m c) :=
  StableHlo.held_congr (c : Thread nD τ) fun b hb => (Pipeline.afterRegion_off (Router.dat (V1 m) c) (V1 m c) _ b hb).symm

set_option backward.isDefEq.respectTransparency.types false in
/-- The routing call. -/
def reg0 : RDat.RegionSeg (pcfgs (F := F)) (adm m) (rdats m) () defs₀ 𝒱₀ L lv 0 where
  win := (launch0 (F := F)).win.to₀
  block_pos := (launch0 (F := F)).block_pos
  stage_whole := (launch0 (F := F)).stage_whole
  K := PEmpty
  osem k := k.elim
  ho := Pipeline.OwnSemFacts.none _
  hbody c := (Router.body_obligation (V1 m) c).loose.toR
  hwaits := RDat.hwaits_of_owed_zero _ _ _ _ L lv 0 fun _ _ => rfl
  pre c := iprop(bufs c (V1 m c) ∗ R c)
  post c := iprop(bufs c (routed m c) ∗ R c)
  X _ := BI.emp
  Y _ := BI.emp
  Z c := StableHlo.held (c : Thread nD τ) (Pipeline.ucRefs τ sig \ Pipeline.arrRefs spec0) (V1 m c)
  hentry c := by
    rw [Pipeline.ownSems0_none]
    have hs : (bufs c (V1 m c) : sProp 𝕄) = iprop((rdats m 0 c).arrays (rdats m 0 c).A
        ∗ StableHlo.held (c : Thread nD τ) (Pipeline.ucRefs τ sig \ Pipeline.arrRefs spec0) (V1 m c)) := (split0 c (V1 m c)).trans (congrArg (fun P => iprop(P ∗ _)) (arrays0 m c (Router.dat (V1 m) c).A (V1 m c) fun _ => rfl).symm)
    iintro ⟨⟨Hub, HO⟩, -, -⟩
    ihave H := (Entails.of_eq hs) $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold RDat.owesAt Pipeline.owesWithin
      icases HO with ⟨%W, HO⟩; iexists W; isplitr; · ipureintro; exact fun _ _ => Or.inl trivial
      iexact HO
    isplitr; · iempintro
    iexact Hrest
  hin c := by
    rw [show (rdats m 0 c).Φ 0 = Pipeline.scopedRest (Ix := Unit) (Name := ℕ) (U := UU) (Lvl := ℕ) (Val := Elt F) spec0 c from rfl]
    iintro ⟨-, -, Hr⟩; iexact Hr
  hout c := by
    rw [Pipeline.ownSems0_none, show (rdats m 0 c).Φ (Fin.last _) = Pipeline.scopedRest (Ix := Unit) (Name := ℕ) (U := UU) (Lvl := ℕ) (Val := Elt F) spec0 c from rfl]
    iintro Hr
    isplitr; · iempintro
    isplitr; · iempintro
    iexact Hr
  hexit c := by
    refine (sep_mono (Entails.of_eq ((Router.dat (V1 m) c).toR_arraysAt_eq _)) .rfl).trans ?_
    have hs := (congrArg₂ (fun P Q => iprop(P ∗ Q)) (arrays0 m c (fun w => (Router.dat (V1 m) c).arrAt w cfg0.N) (routed m c) fun w => (routed_out m c w).symm) (rest0 m c)).trans
      (split0 c (routed m c)).symm
    iintro ⟨Ha, HO, -, Hrest⟩
    imodintro
    isplitl [Ha Hrest]
    · iapply (Entails.of_eq hs)
      isplitl [Ha] <;> iassumption
    unfold RDat.owesAt Pipeline.owesWithin
    icases HO with ⟨%W, -, HO⟩; iexists W; iexact HO

/-! ## The expert call -/

theorem left_ne (z : Vec F S2048x768 .f32) (c : Dev nD) (b : DevRef τ sig) (hb : b ≠ Proc.devRef .tc main_v10) : left m z c b = entered m c b :=
  Function.update_of_ne hb _ _

/-- All buffers, as the call's arrays, its tables and the rest. -/
theorem split1 (c : Dev nD) (W : Valuation τ sig (Elt F)) :
    (bufs c W : sProp 𝕄) = iprop(StableHlo.held (c : Thread nD τ) (Pipeline.arrRefs spec1) W
      ∗ StableHlo.held (c : Thread nD τ) (Pipeline.tblRefs pre1) W
      ∗ StableHlo.held (c : Thread nD τ) ((Pipeline.ucRefs τ sig \ Pipeline.arrRefs spec1) \ Pipeline.tblRefs pre1) W) :=
  (StableHlo.held_sub_split (c : Thread nD τ) (Pipeline.arrRefs_sub_ucRefs spec1 (launch1 (F := F)).win.arr_unscoped) W).trans
    (congrArg (fun P => iprop(_ ∗ P)) (StableHlo.held_sub_split (c : Thread nD τ)
      (Pipeline.tblRefs_sub_ucRefs_sdiff spec1 pre1 (launch1 (F := F)).pre.unscoped (launch1 (F := F)).pre.disj) W))

theorem out_mem : (Proc.devRef .tc main_v10 : DevRef τ sig) ∈ Pipeline.arrRefs spec1 := by decide

theorem rest1 (z : Vec F S2048x768 .f32) (c : Dev nD) :
    (StableHlo.held (c : Thread nD τ) ((Pipeline.ucRefs τ sig \ Pipeline.arrRefs spec1) \ Pipeline.tblRefs pre1) (entered m c) : sProp 𝕄)
      = StableHlo.held (c : Thread nD τ) ((Pipeline.ucRefs τ sig \ Pipeline.arrRefs spec1) \ Pipeline.tblRefs pre1) (left m z c) :=
  StableHlo.held_congr (c : Thread nD τ) fun b hb => (left_ne m z c b fun e =>
    (Finset.mem_sdiff.1 (Finset.mem_sdiff.1 hb).1).2 (e ▸ out_mem)).symm

theorem tables1 (c : Dev nD) (W : Valuation τ sig (Elt F)) (hW : ∀ k, W (Proc.devRef .tc (pre1.ref k)) = entered m c (Proc.devRef .tc (pre1.ref k))) :
    (Pipeline.prefHeld pre1 c (fun _ => fullShare) (adm1 m).1 : sProp 𝕄) = StableHlo.held (c : Thread nD τ) (Pipeline.tblRefs pre1) W :=
  Pipeline.prefHeld_held pre1 (launch1 (F := F)).pre.inj c _ W fun k => (tables_eq m c k).trans (hW k).symm

theorem tables_left (z : Vec F S2048x768 .f32) (c : Dev nD) (k : Fin pre1.K) :
    left m z c (Proc.devRef .tc (pre1.ref k)) = entered m c (Proc.devRef .tc (pre1.ref k)) :=
  left_ne m z c _ (by fin_cases k <;> decide)

/-- Every window but the last is an input, is not marked and does not write the output's buffer. -/
theorem inputs : ∀ w : Fin 12, w ≠ 11 → (spec1 w).isOut = false ∧ Ffn.marked w = false
    ∧ (Proc.devRef .tc (Pipeline.arrRef spec1 w) : DevRef τ sig) ≠ Proc.devRef .tc main_v10 := by decide

/-- The arrays as the call leaves them. -/
theorem arrays_left (c : Dev nD) (A : (w : Fin 12) → Buf (Elt F) (((cfg1 (adm1 m)).win w).arr.view.loc (c.tc : Thread nD τ)))
    (hA : ∀ w, (Ffn.rdat (entered m) (adm1 m) c).ArrAt w (cfg1 (adm1 m)).N (A w)) :
    ∃ z, ∀ w, A w = left m z c (Proc.devRef .tc (Pipeline.arrRef spec1 w)) := by
  obtain ⟨z, hz⟩ := Ffn.out_of_arrAt (entered m) (adm1 m) c (A 11) (hA 11)
  have hout : left m z c (Proc.devRef .tc main_v10) = Ffn.acc (entered m) (adm1 m) c z 23 Ffn.last_lt := Function.update_self _ _ _
  refine ⟨z, fun w => ?_⟩
  by_cases h : w = 11
  · subst h
    exact hz.trans hout.symm
  · exact (Ffn.in_of_arrAt (entered m) (adm1 m) c w (inputs w h).1 (inputs w h).2.1 (A w) (hA w)).trans (left_ne m z c _ (inputs w h).2.2).symm

/-- The arrays after the last point, opened. -/
theorem arraysAt_open (c : Dev nD) :
    ((Ffn.rdat (entered m) (adm1 m) c).arraysAt (cfg1 (adm1 m)).N : sProp 𝕄)
      ⊢ iprop(∃ z, StableHlo.held (c : Thread nD τ) (Pipeline.arrRefs spec1) (left m z c)) := by
  unfold RDat.arraysAt
  refine (BI.bigSep_exists_pi Finset.univ _).trans (exists_elim fun A => ?_)
  refine (BI.bigSep_pure_sep Finset.univ _ _).trans ?_
  refine (sep_mono .rfl (Entails.of_eq (show _ = (Ffn.dat (entered m) (adm1 m) c).arrays A from rfl))).trans ?_
  iintro ⟨%hA, Ha⟩
  obtain ⟨z, hz⟩ := arrays_left m c A fun w => hA w (Finset.mem_univ w)
  iexists z
  iapply (Entails.of_eq (arrays1 m c A (left m z c) hz))
  iexact Ha

set_option backward.isDefEq.respectTransparency.types false in
/-- The expert call. -/
def reg1 : RDat.RegionSeg (pcfgs (F := F)) (adm m) (rdats m) () defs₀ 𝒱₀ L lv 1 where
  win := (launch1 (F := F)).win.to₀
  block_pos := (launch1 (F := F)).block_pos
  stage_whole := (launch1 (F := F)).stage_whole
  K := PEmpty
  osem k := k.elim
  ho := Pipeline.OwnSemFacts.none _
  hbody c := (Ffn.body_obligation (entered m) (adm1 m) c).toRRel
  hwaits := RDat.hwaits_of_owed_zero _ _ _ _ L lv 1 fun _ _ => rfl
  pre c := iprop(bufs c (entered m c) ∗ R c)
  post c := iprop((∃ z, bufs c (left m z c)) ∗ R c)
  X _ := BI.emp
  Y c := Pipeline.prefHeld pre1 c (fun _ => fullShare) (adm1 m).1
  Z c := StableHlo.held (c : Thread nD τ) ((Pipeline.ucRefs τ sig \ Pipeline.arrRefs spec1) \ Pipeline.tblRefs pre1) (entered m c)
  hentry c := by
    rw [Pipeline.ownSems0_none]
    have hs : (bufs c (entered m c) : sProp 𝕄) = iprop((rdats m 1 c).arrays (rdats m 1 c).A
        ∗ Pipeline.prefHeld pre1 c (fun _ => fullShare) (adm1 m).1
        ∗ StableHlo.held (c : Thread nD τ) ((Pipeline.ucRefs τ sig \ Pipeline.arrRefs spec1) \ Pipeline.tblRefs pre1) (entered m c)) :=
      (split1 c (entered m c)).trans (congrArg₂ (fun P Q => iprop(P ∗ Q ∗ _))
        (arrays1 m c (Ffn.dat (entered m) (adm1 m) c).A (entered m c) fun _ => rfl).symm (tables1 m c (entered m c) fun _ => rfl).symm)
    iintro ⟨⟨Hub, HO⟩, -, -⟩
    ihave H := (Entails.of_eq hs) $$ Hub
    icases H with ⟨Ha, Ht, Hrest⟩
    imodintro
    isplitl [Ha]; · iexact Ha
    isplitl [Ht]; · iexact Ht
    isplitl [HO]
    · unfold RDat.owesAt Pipeline.owesWithin
      icases HO with ⟨%W, HO⟩; iexists W; isplitr; · ipureintro; exact fun _ _ => Or.inl trivial
      iexact HO
    isplitr; · iempintro
    iexact Hrest
  hin c := by
    rw [show (rdats m 1 c).Φ 0 = iprop(Pipeline.scopedRest (Ix := Unit) (Name := ℕ) (U := UU) (Lvl := ℕ) (Val := Elt F) spec1 c
      ∗ Pipeline.prefHeld pre1 c (fun _ => fullShare) (adm1 m).1) from rfl]
    iintro ⟨-, Ht, Hr⟩
    isplitl [Hr]; · iexact Hr
    iexact Ht
  hout c := by
    rw [Pipeline.ownSems0_none, show (rdats m 1 c).Φ (Fin.last _) = iprop(Pipeline.scopedRest (Ix := Unit) (Name := ℕ) (U := UU) (Lvl := ℕ) (Val := Elt F) spec1 c
      ∗ Pipeline.prefHeld pre1 c (fun _ => fullShare) (adm1 m).1) from rfl]
    iintro ⟨Hr, Ht⟩
    isplitl [Ht]; · iexact Ht
    isplitr; · iempintro
    iexact Hr
  hexit c := by
    refine (sep_mono (arraysAt_open m c) .rfl).trans ?_
    have hs (z) : (iprop(StableHlo.held (c : Thread nD τ) (Pipeline.arrRefs spec1) (left m z c)
        ∗ Pipeline.prefHeld pre1 c (fun _ => fullShare) (adm1 m).1
        ∗ StableHlo.held (c : Thread nD τ) ((Pipeline.ucRefs τ sig \ Pipeline.arrRefs spec1) \ Pipeline.tblRefs pre1) (entered m c)) : sProp 𝕄)
        = bufs c (left m z c) :=
      (congrArg₂ (fun P Q => iprop(_ ∗ P ∗ Q)) (tables1 m c (left m z c) (tables_left m z c)) (rest1 m z c)).trans (split1 c (left m z c)).symm
    iintro ⟨⟨%z, Ha⟩, HO, Ht, Hrest⟩
    imodintro
    isplitl [Ha Ht Hrest]
    · iexists z
      iapply (Entails.of_eq (hs z))
      isplitl [Ha]; · iexact Ha
      isplitl [Ht] <;> iassumption
    unfold RDat.owesAt Pipeline.owesWithin
    icases HO with ⟨%W, -, HO⟩; iexists W; iexact HO

end Cert.Proof.Launch

end
-- ==== Proof.Run.lean ====
/-
  The run of @main from its segments, over any float values, and what it says of the arguments and the result.
-/
module

public import proofs.«01_k».proof.Proof.Launch

@[expose] public section

set_option maxRecDepth 16384

noncomputable section

namespace Cert.Proof.Launch

open Cert.KernelIdeal Cert.KernelIdeal.Gen
open Cert.Proof.Router (UU)

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window cellOf)

variable {F : FTy → Type} [FloatOps F]

local notation "𝕄" => MT nD τ sig Unit (Elt F) ℕ UU ℕ

variable (m : (ℓ : Loc nD τ sig) → Buf (Elt F) ℓ)

abbrev EP : Emb (UR sig nD τ) 𝕄 := embL

/-- The staging cells' tokens at launch. -/
def u₀ : UU := (initOf (Pipeline.cells (Pipeline.pin (pcfgs (F := F)) (adm m)) (cellOf_inj (adm m)))
  (Pipeline.launchToks (Pipeline.pin (pcfgs (F := F)) (adm m)) (cellOf_inj (adm m))), 1)

/-- @main as its segments. -/
abbrev segs (_ : Dev nD) : List (RDat.Seg (pcfgs (F := F)) (adm m) (rdats m) () defs₀ 𝒱₀ L lv) :=
  [.host (seg0 m), .region (reg0 m), .host (seg1 m), .region (reg1 m), .host (seg2 m)]

/-- The buffers at the end, the expert call's output buffer having held `z` at first. -/
abbrev final (z : Vec F S2048x768 .f32) (c : Dev nD) : Valuation τ sig (Elt F) := StableHlo.after hostOps2 (left m z c)

set_option backward.isDefEq.respectTransparency.types false in
theorem run_bufs (g : Dev nD → PrngReg) :
    θ_run defs (onTc (τ := τ) (main (F := F))) ⟨m, fun _ => 0, g⟩ (fun r =>
      (∀ c : Dev nD, ∃ z, ∀ b ∈ Pipeline.ucRefs τ sig, r.2.mem ((c : Thread nD τ).1, b) = final m z c b) ∧ r.2.sem = fun _ => 0) :=
  RDat.θ_run_regions_kit_dev_sems (pcfgs (F := F)) (adm m) (rdats m) () (cellOf_inj (adm m)) EP defs₀ 𝒱₀ L lv m g main (segs m)
    (fun c Q => by
      rewrite [main_chain c, RDat.Seg.run_eq_chain,
        show (segs m c).map RDat.Seg.prog = [
          StableHlo.seq hostOps0,
          Prog.lift (.customCall (Pipeline.entry 0) ()),
          StableHlo.seq hostOps1,
          Prog.lift (.customCall (Pipeline.entry 1) ()),
          StableHlo.seq hostOps2 ] from rfl]
      dsimp (config := { failIfUnchanged := false }) only
      exact .rfl)
    (fun c => by simp only [segs, RDat.Seg.pipes_host, RDat.Seg.pipes_region, RDat.Seg.pipes_nil]; decide)
    (O₀ := 0) (hL := fun _ _ => rfl) (G := fun _ => iprop(emp)) (u₀ := u₀ m)
    (hu₀ := by
      unfold u₀
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => iprop(bufs c (V0 m c) ∗ R c)) (Tₙ := fun c => iprop(∃ z, bufs c (final m z c)))
    (hch := fun c => ⟨.rfl, .rfl, .rfl, .rfl, .rfl, .rfl⟩)
    (hinit := by
      refine Pipeline.initEach L lv fun c => ?_
      rw [show unscopedBufs c (fun b => m ((c : Thread nD τ).loc b)) = bufs c (V0 m c) from Pipeline.unscopedBufs_held c (V0 m c)]
      iintro ⟨⟨Hh, -, HO, -, -, -⟩, -⟩
      imodintro
      isplitl [Hh]; · iexact Hh
      iexists ∅; iexact HO)
    (QY := fun c s => ∃ z, ∀ b ∈ Pipeline.ucRefs τ sig, s.mem ((c : Thread nD τ).1, b) = final m z c b)
    (hfin := fun c s' => by
      iintro ⟨⟨%z, Hh⟩, HSI⟩
      unfold bufs StableHlo.held
      ihave Hr := (pointsTo_read_all (Pipeline.ucRefs τ sig) (fun b => ((c : Thread nD τ).1, b)) (final m z c) s') $$ [Hh HSI]
      · isplitl [Hh] <;> iassumption
      icases Hr with ⟨%h, HSI⟩
      imodintro
      isplitr; · ipureintro; exact ⟨z, h⟩
      iexact HSI)
    (hQ := fun _ h hz => ⟨h, funext fun g => hz g (.inr (regions_no_unscoped g.2))⟩)

/-! ## The buffers at the end -/

theorem final_arg (z : Vec F S2048x768 .f32) (c : Dev nD) (r : Ref sig .tc) (h0 : r ∉ hostOps0_W) (h1 : r ∉ hostOps1_W) (h2 : r ∉ hostOps2_W)
    (hr : ∀ w, Pipeline.arrRef spec0 w = r → (spec0 w).isOut = false) (hv : r ≠ main_v10) :
    final m z c (Proc.devRef .tc r) = m ((c : Thread nD τ).loc r) :=
  (StableHlo.after_of_writes_sub hostOps2 _ hostOps2_writes h2).trans <|
    (left_ne m z c _ fun e => hv (Proc.devRef_injective _ e)).trans <|
    (entered_keeps m c r h1).trans <| (routed_keeps m c r hr).trans <| V1_of m c r h0

theorem after_v11 (W : Valuation τ sig (Elt F)) : StableHlo.after hostOps2 W (Proc.devRef .tc main_v11) = shapeCast S1x2048x768 (W (Proc.devRef .tc main_v10)) shapeCasts_S2048x768_S1x2048x768 := by
  simp only [hostOps2, StableHlo.after_cons, StableHlo.after_nil]
  rw [StableHlo.reshape_result]
  rfl

theorem final_v11 (z : Vec F S2048x768 .f32) (c : Dev nD) :
    final m z c (Proc.devRef .tc main_v11) = shapeCast S1x2048x768 (Ffn.acc (entered m) (adm1 m) c z 23 Ffn.last_lt) shapeCasts_S2048x768_S1x2048x768 := by
  refine (after_v11 (left m z c)).trans ?_
  unfold left
  rw [Function.update_self]

/-- The arguments are unchanged. -/
abbrev Unchanged (c : Dev nD) (s : MemSt nD τ sig (Elt F)) : Prop :=
  s.mem ((c : Thread nD τ).loc main_arg0) = m ((c : Thread nD τ).loc main_arg0) ∧
  s.mem ((c : Thread nD τ).loc main_arg1) = m ((c : Thread nD τ).loc main_arg1) ∧
  s.mem ((c : Thread nD τ).loc main_arg2) = m ((c : Thread nD τ).loc main_arg2) ∧
  s.mem ((c : Thread nD τ).loc main_arg3) = m ((c : Thread nD τ).loc main_arg3) ∧
  s.mem ((c : Thread nD τ).loc main_arg4) = m ((c : Thread nD τ).loc main_arg4) ∧
  s.mem ((c : Thread nD τ).loc main_arg5) = m ((c : Thread nD τ).loc main_arg5) ∧
  s.mem ((c : Thread nD τ).loc main_arg6) = m ((c : Thread nD τ).loc main_arg6)

theorem mem_uc (r : Ref sig .tc) (h : r.isScoped = false) : Proc.devRef .tc r ∈ Pipeline.ucRefs τ sig :=
  Finset.mem_filter.mpr ⟨StableHlo.devRef_mem_tcRefs r, fun e => Bool.noConfusion (h.symm.trans e)⟩

/-- A run ends with the arguments unchanged, the result at the expert call's output and every counter at zero. -/
theorem run_main (g : Dev nD → PrngReg) :
    θ_run defs (onTc (τ := τ) (main (F := F))) ⟨m, fun _ => 0, g⟩ (fun r =>
      (∀ c : Dev nD, Unchanged m c r.2 ∧ ∃ z, r.2.mem ((c : Thread nD τ).loc main_v11)
        = shapeCast S1x2048x768 (Ffn.acc (entered m) (adm1 m) c z 23 Ffn.last_lt) shapeCasts_S2048x768_S1x2048x768) ∧ r.2.sem = fun _ => 0) :=
  (θ_run defs _ _).mono (fun r h => ⟨fun c => by
    obtain ⟨z, hz⟩ := h.1 c
    exact ⟨⟨(hz _ (mem_uc main_arg0 (by decide))).trans (final_arg m z c main_arg0 (by decide) (by decide) (by decide) (by decide) (by decide)),
      (hz _ (mem_uc main_arg1 (by decide))).trans (final_arg m z c main_arg1 (by decide) (by decide) (by decide) (by decide) (by decide)),
      (hz _ (mem_uc main_arg2 (by decide))).trans (final_arg m z c main_arg2 (by decide) (by decide) (by decide) (by decide) (by decide)),
      (hz _ (mem_uc main_arg3 (by decide))).trans (final_arg m z c main_arg3 (by decide) (by decide) (by decide) (by decide) (by decide)),
      (hz _ (mem_uc main_arg4 (by decide))).trans (final_arg m z c main_arg4 (by decide) (by decide) (by decide) (by decide) (by decide)),
      (hz _ (mem_uc main_arg5 (by decide))).trans (final_arg m z c main_arg5 (by decide) (by decide) (by decide) (by decide) (by decide)),
      (hz _ (mem_uc main_arg6 (by decide))).trans (final_arg m z c main_arg6 (by decide) (by decide) (by decide) (by decide) (by decide))⟩,
      z, (hz _ (mem_uc main_v11 (by decide))).trans (final_v11 m z c)⟩, h.2⟩) (run_bufs m g)

end Cert.Proof.Launch

end
-- ==== Proof.SameText.lean ====
/-
  The compiled kernel and its idealization have the same text: at any float values their body tables and their
  `@main` are one program, so a run of one is a run of the other.
-/
module

public import proofs.«01_k».proof.Proof.Gen.Kernel
public import proofs.«01_k».proof.Proof.Gen.KernelIdeal

@[expose] public section

set_option maxRecDepth 16384

noncomputable section

namespace Cert.Proof.SameText

open Idealize.ShloMosaic Idealize.SL.Sem

variable {F : FTy → Type} [FloatOps F]

section
open Cert.KernelIdeal
/-- `@main` of the idealization, its two pipelines left open. -/
def textI {Λ : Labels} (P : Fin 2 → Pipeline.PCfg sig Λ (Elt F)) :
    Dev nD → Prog (TpuEff nD τ sig (Elt F) (Pipeline.Sig Λ (Fin 2) fun p => (P p).Adm) .tc) PUnit := fun _ => do
  hlo rfl (StableHlo.reshape main_arg0 main_v0 (rfl : (.f32 : EltTy) = .f32) Facts₀.shapeCasts_S1x2048x768_S2048x768) (fun _ => .ret ⟨⟩)
  hlo rfl (StableHlo.reshape main_arg2 main_v1 (rfl : (.f32 : EltTy) = .f32) Facts₀.shapeCasts_S8_S1x8) (fun _ => .ret ⟨⟩)
  hlo rfl (StableHlo.reshape main_arg4 main_v2 (rfl : (.f32 : EltTy) = .f32) Facts₀.shapeCasts_S8x3072_S8x1x3072) (fun _ => .ret ⟨⟩)
  hlo rfl (StableHlo.reshape main_arg6 main_v3 (rfl : (.f32 : EltTy) = .f32) Facts₀.shapeCasts_S8x768_S8x1x768) (fun _ => .ret ⟨⟩)
  Prog.lift (.customCall (Pipeline.entry 0) ())
  hlo rfl (StableHlo.reshape main_v4_4 main_v5 (rfl : (.i32 : EltTy) = .i32) Facts₀.shapeCasts_S1x32_S32) (fun _ => .ret ⟨⟩)
  hlo rfl (StableHlo.reshape main_v4_5 main_v6 (rfl : (.i32 : EltTy) = .i32) Facts₀.shapeCasts_S1x32_S32) (fun _ => .ret ⟨⟩)
  hlo rfl (StableHlo.reshape main_v4_6 main_v7 (rfl : (.i32 : EltTy) = .i32) Facts₀.shapeCasts_S1x1_S1) (fun _ => .ret ⟨⟩)
  hlo rfl (StableHlo.reshape main_v4_0 main_v8 (rfl : (.i32 : EltTy) = .i32) Facts₀.shapeCasts_S2048x1_S1x2048) (fun _ => .ret ⟨⟩)
  hlo rfl (StableHlo.reshape main_v4_1 main_v9 (rfl : (.i32 : EltTy) = .i32) Facts₀.shapeCasts_S2048x1_S1x2048) (fun _ => .ret ⟨⟩)
  Prog.lift (.customCall (Pipeline.entry 1) ())
  hlo rfl (StableHlo.reshape main_v10 main_v11 (rfl : (.f32 : EltTy) = .f32) Facts₀.shapeCasts_S2048x768_S1x2048x768) (fun _ => .ret ⟨⟩)
  pure ⟨⟩

theorem main_textI : main (F := F) = textI (pcfgs (F := F)) := rfl
end

section
open Cert.Kernel
/-- `@main` of the compiled kernel, its two pipelines left open. -/
def textK {Λ : Labels} (P : Fin 2 → Pipeline.PCfg sig Λ (Elt F)) :
    Dev nD → Prog (TpuEff nD τ sig (Elt F) (Pipeline.Sig Λ (Fin 2) fun p => (P p).Adm) .tc) PUnit := fun _ => do
  hlo rfl (StableHlo.reshape main_arg0 main_v0 (rfl : (.f32 : EltTy) = .f32) Facts₀.shapeCasts_S1x2048x768_S2048x768) (fun _ => .ret ⟨⟩)
  hlo rfl (StableHlo.reshape main_arg2 main_v1 (rfl : (.f32 : EltTy) = .f32) Facts₀.shapeCasts_S8_S1x8) (fun _ => .ret ⟨⟩)
  hlo rfl (StableHlo.reshape main_arg4 main_v2 (rfl : (.f32 : EltTy) = .f32) Facts₀.shapeCasts_S8x3072_S8x1x3072) (fun _ => .ret ⟨⟩)
  hlo rfl (StableHlo.reshape main_arg6 main_v3 (rfl : (.f32 : EltTy) = .f32) Facts₀.shapeCasts_S8x768_S8x1x768) (fun _ => .ret ⟨⟩)
  Prog.lift (.customCall (Pipeline.entry 0) ())
  hlo rfl (StableHlo.reshape main_v4_4 main_v5 (rfl : (.i32 : EltTy) = .i32) Facts₀.shapeCasts_S1x32_S32) (fun _ => .ret ⟨⟩)
  hlo rfl (StableHlo.reshape main_v4_5 main_v6 (rfl : (.i32 : EltTy) = .i32) Facts₀.shapeCasts_S1x32_S32) (fun _ => .ret ⟨⟩)
  hlo rfl (StableHlo.reshape main_v4_6 main_v7 (rfl : (.i32 : EltTy) = .i32) Facts₀.shapeCasts_S1x1_S1) (fun _ => .ret ⟨⟩)
  hlo rfl (StableHlo.reshape main_v4_0 main_v8 (rfl : (.i32 : EltTy) = .i32) Facts₀.shapeCasts_S2048x1_S1x2048) (fun _ => .ret ⟨⟩)
  hlo rfl (StableHlo.reshape main_v4_1 main_v9 (rfl : (.i32 : EltTy) = .i32) Facts₀.shapeCasts_S2048x1_S1x2048) (fun _ => .ret ⟨⟩)
  Prog.lift (.customCall (Pipeline.entry 1) ())
  hlo rfl (StableHlo.reshape main_v10 main_v11 (rfl : (.f32 : EltTy) = .f32) Facts₀.shapeCasts_S2048x768_S1x2048x768) (fun _ => .ret ⟨⟩)
  pure ⟨⟩

theorem main_textK : main (F := F) = textK (pcfgs (F := F)) := rfl
end

theorem text_eq {Λ : Labels} (P : Fin 2 → Pipeline.PCfg Cert.KernelIdeal.sig Λ (Elt F)) : textK P = textI P := rfl

theorem pcfgs_eq : (fun p => Cert.Kernel.pcfgs (F := F) p) = (fun p => Cert.KernelIdeal.pcfgs (F := F) p) := rfl

set_option maxHeartbeats 8000000 in
/-- The two body tables. -/
theorem defs₀_eq : @Cert.Kernel.defs₀ F _ Cert.Kernel.Gen.facts = @Cert.KernelIdeal.defs₀ F _ Cert.KernelIdeal.Gen.facts := by
  unfold Cert.Kernel.defs₀ Cert.KernelIdeal.defs₀
  refine congrArg _ ?_
  funext l x
  fin_cases l
  · rfl
  · rfl

/-- A run over one pair of pipelines and body tables is a run over an equal pair. -/
theorem run_of {Λ : Labels} {P P' : Fin 2 → Pipeline.PCfg Cert.KernelIdeal.sig Λ (Elt F)} (hP : P = P')
    {D D' : Defs Cert.KernelIdeal.nD Cert.KernelIdeal.τ Cert.KernelIdeal.sig (Elt F) Λ} (hD : D = D') (s) (Q)
    (h : θ_run (Pipeline.defs P' D') (onTc (textI P')) s Q) : θ_run (Pipeline.defs P D) (onTc (textK P)) s Q := by
  subst hP hD
  exact h

set_option maxHeartbeats 8000000 in
/-- A run of the idealization, at any float values, is one of the compiled kernel. -/
theorem kernel_of (s) (Q) (h : θ_run (Cert.KernelIdeal.defs (F := F)) (onTc (Cert.KernelIdeal.main (F := F))) s Q) :
    θ_run (Cert.Kernel.defs (F := F)) (onTc (Cert.Kernel.main (F := F))) s Q := by
  rw [main_textI] at h
  rw [main_textK]
  unfold Cert.KernelIdeal.defs at h
  unfold Cert.Kernel.defs
  exact run_of (P := Cert.Kernel.pcfgs) (P' := Cert.KernelIdeal.pcfgs) pcfgs_eq defs₀_eq _ _ h

end Cert.Proof.SameText

end
-- ==== Proof.Frames.lean ====
/-
  The three frames: each program runs, leaves its arguments as they were and every counter at zero.
-/
module

public import proofs.«01_k».proof.Proof.Run
public import proofs.«01_k».proof.Proof.SameText
public import proofs.«01_k».proof.Proof.Gen.Kernel
public import proofs.«01_k».proof.Proof.Gen.ReferenceIdeal
public import proofs.«01_k».proof.Proof.Gen.ReferenceIdeal.Run
public import proofs.«01_k».proof.Defs

@[expose] public section

noncomputable section

namespace Cert.Proof

open Idealize.ShloMosaic Idealize.SL.Sem

/-- The compiled kernel, which has the same text: the run at bit patterns. -/
theorem frame_kernel : Cert.quiescent_Kernel (hKernel := Cert.Kernel.Gen.facts) := fun m g _ =>
  SameText.kernel_of _ _ ((θ_run Cert.KernelIdeal.defs _ _).mono (fun _ h => ⟨fun c => (h.1 c).1, h.2⟩)
    (Launch.run_main (F := Bits) m g))

theorem frame_ideal : Cert.quiescent_KernelIdeal (hKernelIdeal := Cert.KernelIdeal.Gen.facts) := fun m g _ =>
  (θ_run Cert.KernelIdeal.defs _ _).mono (fun _ h => ⟨fun c => (h.1 c).1, h.2⟩) (Launch.run_main (F := Ideal) m g)

/-- The reference declares no semaphore. -/
theorem frame_reference : Cert.quiescent_ReferenceIdeal (hReferenceIdeal := Cert.ReferenceIdeal.Gen.facts) := fun m g _ =>
  (θ_run Cert.ReferenceIdeal.defs _ _).mono (fun _ h => ⟨fun c => (h c).2,
    funext fun s => nomatch s.2⟩) (Cert.ReferenceIdeal.Value.run (F := Ideal) m g)

end Cert.Proof

end
-- ==== Proof.Choice.lean ====
/-
  The choice of the two largest of eight numbers: the least place of the largest, and the same once that place is
  struck out. A stable descending sort puts them first, and the smallest index at which the largest stands is the
  first of them.
-/
module

public import Idealize.ShloMosaic.Lib.SortFacts
public import Idealize.ShloMosaic.Lib.Pointwise

@[expose] public section
set_option maxRecDepth 16384
noncomputable section

namespace Cert.Proof.Choice

open Idealize.ShloMosaic

/-- `p` is the least place of the largest value of `f`. -/
def Leads (f : Fin 8 → EReal) (p : Fin 8) : Prop := ∀ e, e ≠ p → f e < f p ∨ (f e = f p ∧ p < e)

theorem exists_leads (f : Fin 8 → EReal) : ∃ p, Leads f p := by
  obtain ⟨q, hq⟩ := Finite.exists_max f
  have hne : (Finset.univ.filter fun e => f e = f q).Nonempty := ⟨q, by simp⟩
  refine ⟨(Finset.univ.filter fun e => f e = f q).min' hne, fun e he => ?_⟩
  have hp : f ((Finset.univ.filter fun e => f e = f q).min' hne) = f q :=
    (Finset.mem_filter.mp (Finset.min'_mem _ hne)).2
  rw [hp]
  rcases lt_or_eq_of_le (hq e) with h | h
  · exact Or.inl h
  · exact Or.inr ⟨h, lt_of_le_of_ne (Finset.min'_le _ _ (by simp [h])) (Ne.symm he)⟩

theorem leads_unique {f : Fin 8 → EReal} {p q : Fin 8} (hp : Leads f p) (hq : Leads f q) : p = q := by
  by_contra h
  rcases hp q (Ne.symm h) with a | ⟨a, b⟩ <;> rcases hq p h with c | ⟨c, d⟩
  · exact lt_asymm a c
  · exact absurd a (by rw [c]; exact lt_irrefl _)
  · exact absurd c (by rw [a]; exact lt_irrefl _)
  · exact lt_asymm b d

/-- The least place of the largest value. -/
def first (f : Fin 8 → EReal) : Fin 8 := Classical.choose (exists_leads f)

theorem first_leads (f : Fin 8 → EReal) : Leads f (first f) := Classical.choose_spec (exists_leads f)

theorem first_eq {f : Fin 8 → EReal} {p : Fin 8} (h : Leads f p) : first f = p := leads_unique (first_leads f) h

/-- The values with the first choice struck out. -/
def masked (f : Fin 8 → EReal) (e : Fin 8) : EReal := if e = first f then ⊥ else f e

/-- The second choice. -/
def second (f : Fin 8 → EReal) : Fin 8 := first (masked f)

theorem le_first (f : Fin 8 → EReal) (e : Fin 8) : f e ≤ f (first f) := by
  by_cases h : e = first f
  · rw [h]
  · rcases first_leads f e h with a | a
    · exact a.le
    · exact a.1.le

theorem second_ne {f : Fin 8 → EReal} (hf : ∀ e, f e ≠ ⊥) : second f ≠ first f := by
  intro h
  obtain ⟨e, he⟩ := exists_ne (first f)
  have hs := first_leads (masked f) e (by rw [show first (masked f) = second f from rfl, h]; exact he)
  rw [show first (masked f) = second f from rfl, h] at hs
  simp only [masked, if_neg he, if_true] at hs
  rcases hs with a | a
  · exact absurd a not_lt_bot
  · exact hf e a.1

theorem masked_second {f : Fin 8 → EReal} (hf : ∀ e, f e ≠ ⊥) : masked f (second f) = f (second f) :=
  if_neg (second_ne hf)

theorem second_le (f : Fin 8 → EReal) : f (second f) ≤ f (first f) := le_first f _

/-- The largest value, as a maximum taken from the bottom. -/
theorem fold_max (f : Fin 8 → EReal) : Finset.univ.fold max ⊥ f = f (first f) := by
  apply le_antisymm
  · rw [Finset.fold_max_le]
    exact ⟨bot_le, fun e _ => le_first f e⟩
  · rw [Finset.le_fold_max]
    exact Or.inr ⟨first f, Finset.mem_univ _, le_rfl⟩

/-- The least index of those that satisfy a test, as a minimum of words over a bound. -/
theorem fold_least_bool : ∀ p : Fin 8 → Bool, ∀ q : Fin 8, (p q = true ∧ ∀ k, k < q → p k = false) →
    Finset.univ.fold IntOp.minsi 2147483647#32 (fun k : Fin 8 => if p k = true then BitVec.ofNat 32 k.val else 8#32)
      = BitVec.ofNat 32 q.val := by
  decide +kernel

theorem fold_least (f : Fin 8 → EReal) :
    Finset.univ.fold IntOp.minsi 2147483647#32
      (fun k : Fin 8 => if f k = f (first f) then BitVec.ofNat 32 k.val else 8#32) = BitVec.ofNat 32 (first f).val := by
  have h := fold_least_bool (fun k => decide (f k = f (first f))) (first f)
    ⟨by simp, fun k hk => decide_eq_false fun he => by
      rcases first_leads f k hk.ne with a | a
      · exact absurd he a.ne
      · exact lt_asymm a.2 hk⟩
  simpa using h

/-! ## A stable descending sort -/

/-- `a` stands before `b`: it is larger, or as large and earlier. -/
def ahead (f : Fin 8 → EReal) (a b : Fin 8) : Bool := decide (f b < f a) || (decide (f a = f b) && decide (a < b))

theorem ahead_iff (f : Fin 8 → EReal) (a b : Fin 8) : ahead f a b = true ↔ (f b < f a ∨ (f a = f b ∧ a < b)) := by
  simp [ahead]

theorem not_ahead_iff (f : Fin 8 → EReal) (a b : Fin 8) : ahead f a b = false ↔ a = b ∨ ahead f b a = true := by
  rw [Bool.eq_false_iff, Ne, ahead_iff, ahead_iff]
  rcases lt_trichotomy (f a) (f b) with h | h | h
  · simp [h, h.le, h.ne, not_lt.mpr h.le]
  · rcases lt_trichotomy a b with k | k | k
    · simp [h, k, not_lt.mpr k.le, k.ne]
    · simp [k]
    · simp [h, k, not_lt.mpr k.le]
  · have : a ≠ b := by rintro rfl; exact lt_irrefl _ h
    simp [h, this, not_lt.mpr h.le, h.ne]

theorem ahead_trans (f : Fin 8 → EReal) (a b c : Fin 8) (h : ahead f a b = true) (k : ahead f b c = true) :
    ahead f a c = true := by
  rw [ahead_iff] at *
  rcases h with h | ⟨h, h'⟩ <;> rcases k with k | ⟨k, k'⟩
  · exact Or.inl (k.trans h)
  · exact Or.inl (k ▸ h)
  · exact Or.inl (h ▸ k)
  · exact Or.inr ⟨h.trans k, h'.trans k'⟩

/-- Sorting by value alone, stably, is sorting by value and then by place. -/
theorem stableSort_eq (f : Fin 8 → EReal) (R : Fin 8 → Fin 8 → Bool) (hR : ∀ a b, R a b = decide (f b < f a))
    (l : List (Fin 8)) (hl : l.Pairwise (· < ·)) : stableSort R l = stableSort (ahead f) l := by
  induction l with
  | nil => rfl
  | cons a l ih =>
    rw [List.pairwise_cons] at hl
    rw [stableSort, stableSort, ih hl.2]
    refine insertBefore_congr _ _ _ _ fun b hb => ?_
    have hab : a < b := hl.1 b ((perm_stableSort _ _).mem_iff.mp hb)
    rw [hR, ahead]
    simp [not_lt.mpr hab.le]

theorem sortedFrom_eq (f : Fin 8 → EReal) (R : Fin 8 → Fin 8 → Bool) (hR : ∀ a b, R a b = decide (f b < f a)) :
    sortedFrom R = sortedFrom (ahead f) := by
  have h : sortPositions 8 R = sortPositions 8 (ahead f) :=
    stableSort_eq f R hR _ (List.pairwise_lt_finRange 8)
  funext k
  unfold sortedFrom
  rw [List.get_of_eq h]
  rfl

theorem sorted_ahead (f : Fin 8 → EReal) {i j : Fin 8} (hij : i < j) :
    ahead f (sortedFrom (ahead f) i) (sortedFrom (ahead f) j) = true := by
  have h := sortedFrom_noInversion (ahead f) (ahead f)
    (fun a b h => (not_ahead_iff f b a).mpr (Or.inr h)) (fun _ _ h => h)
    (fun a b c h k => by
      rw [not_ahead_iff] at *
      rcases h with rfl | h
      · exact k
      · rcases k with rfl | k
        · exact Or.inr h
        · exact Or.inr (ahead_trans f _ _ _ k h)) i j hij
  rcases (not_ahead_iff f _ _).mp h with e | e
  · exact absurd (sortedFrom_injective _ e) hij.ne'
  · exact e

theorem leads_of (f : Fin 8 → EReal) (p : Fin 8) (h : ∀ e, e ≠ p → ahead f p e = true) : Leads f p := fun e he => by
  rcases (ahead_iff f p e).mp (h e he) with a | a
  · exact Or.inl a
  · exact Or.inr ⟨a.1.symm, a.2⟩

theorem sorted_zero (f : Fin 8 → EReal) (R : Fin 8 → Fin 8 → Bool) (hR : ∀ a b, R a b = decide (f b < f a)) :
    sortedFrom R 0 = first f := by
  rw [sortedFrom_eq f R hR]
  refine (first_eq (leads_of f _ fun e he => ?_)).symm
  obtain ⟨k, rfl⟩ := sortedFrom_surjective (ahead f) e
  exact sorted_ahead f (Fin.pos_of_ne_zero fun h => he (by rw [h]))

theorem sorted_one (f : Fin 8 → EReal) (hf : ∀ e, f e ≠ ⊥) (R : Fin 8 → Fin 8 → Bool)
    (hR : ∀ a b, R a b = decide (f b < f a)) : sortedFrom R 1 = second f := by
  have h0 := sorted_zero f R hR
  rw [sortedFrom_eq f R hR] at h0 ⊢
  have h1 : sortedFrom (ahead f) 1 ≠ first f := fun h => by
    have := sortedFrom_injective _ (h.trans h0.symm)
    exact absurd this (by decide)
  refine (first_eq (f := masked f) fun e he => ?_).symm
  rw [masked, masked, if_neg h1]
  by_cases hz : e = first f
  · rw [if_pos hz]
    exact Or.inl (bot_lt_iff_ne_bot.mpr (hf _))
  · rw [if_neg hz]
    obtain ⟨k, rfl⟩ := sortedFrom_surjective (ahead f) e
    have hk0 : k ≠ 0 := fun h => hz (by rw [h, h0])
    have hk1 : k ≠ 1 := fun h => he (by rw [h])
    have : (1 : Fin 8) < k := by
      rw [Fin.lt_def]
      have a : k.val ≠ 0 := fun h => hk0 (Fin.ext h)
      have b : k.val ≠ 1 := fun h => hk1 (Fin.ext h)
      show 1 < k.val
      omega
    rcases (ahead_iff f _ _).mp (sorted_ahead f this) with a | a
    · exact Or.inl a
    · exact Or.inr ⟨a.1.symm, a.2⟩

end Cert.Proof.Choice

end
-- ==== Proof.Spec.lean ====
/-
  The mathematics of the problem at one token and one channel, over extended reals. A token's eight logits pick two
  experts; the two gates are the softmax of the two logits; the output is the gated sum of the two experts' layers.
-/
module

public import proofs.«01_k».proof.Proof.Choice

@[expose] public section

set_option maxRecDepth 16384

noncomputable section

namespace Cert.Proof.Spec

open Idealize.ShloMosaic Cert.Proof.Choice

/-- One expert's layers at one vector. -/
def layer (w1 : Fin 768 → Fin 3072 → EReal) (b1 : Fin 3072 → EReal) (w2 : Fin 3072 → Fin 768 → EReal) (b2 : Fin 768 → EReal)
    (v : Fin 768 → EReal) (d : Fin 768) : EReal :=
  ∑ k, max (∑ j, v j * w1 j k + b1 k) 0 * w2 k d + b2 d

/-- What the second choice weighs against the first. -/
def ratio (f : Fin 8 → EReal) : EReal := Ideal.exp (f (second f) - f (first f))

/-- The first choice's gate. -/
def gate0 (f : Fin 8 → EReal) : EReal := Ideal.div 1 (1 + ratio f)
/-- The second choice's gate. -/
def gate1 (f : Fin 8 → EReal) : EReal := Ideal.div (ratio f) (1 + ratio f)

section
variable (x : (⟨3, ![1, 2048, 768]⟩ : Shape).Idx → EReal) (wg : (⟨2, ![768, 8]⟩ : Shape).Idx → EReal)
  (bg : (⟨1, ![8]⟩ : Shape).Idx → EReal) (w1 : (⟨3, ![8, 768, 3072]⟩ : Shape).Idx → EReal)
  (b1 : (⟨2, ![8, 3072]⟩ : Shape).Idx → EReal) (w2 : (⟨3, ![8, 3072, 768]⟩ : Shape).Idx → EReal)
  (b2 : (⟨2, ![8, 768]⟩ : Shape).Idx → EReal)

/-- The logits of token `t`. -/
def logits (t : Fin 2048) (e : Fin 8) : EReal := ∑ k : Fin 768, x (ix3 0 t k) * wg (ix2 k e) + bg (ix1 e)

/-- Expert `e` applied to token `t`. -/
def expert (e : Fin 8) (t : Fin 2048) (d : Fin 768) : EReal :=
  layer (fun j k => w1 (ix3 e j k)) (fun k => b1 (ix2 e k)) (fun k d => w2 (ix3 e k d)) (fun d => b2 (ix2 e d))
    (fun j => x (ix3 0 t j)) d

/-- The output at token `t` and channel `d`. -/
def out (t : Fin 2048) (d : Fin 768) : EReal :=
  gate0 (logits x wg bg t) * expert x w1 b1 w2 b2 (first (logits x wg bg t)) t d
    + gate1 (logits x wg bg t) * expert x w1 b1 w2 b2 (second (logits x wg bg t)) t d
end

end Cert.Proof.Spec

end
-- ==== Proof.Numbers.lean ====
/-
  Scalars of the ideal instance that the router uses: bits as zero and one, naturals as floats, tiles of 256, and
  words of small naturals.
-/
module

public import Idealize.ShloMosaic.Lib.Pointwise
public import Idealize.ShloMosaic.Lib.Routing.BitFacts
public import Idealize.ShloMosaic.Lib.IndicatorCount

@[expose] public section

set_option maxRecDepth 16384

noncomputable section

namespace Cert.Proof.Numbers

open Idealize.ShloMosaic

theorem cmpi_slt {a b : ℕ} (ha : a < 2 ^ 31) (hb : b < 2 ^ 31) :
    IntOp.cmpi .slt (BitVec.ofNat 32 a) (BitVec.ofNat 32 b) = BitVec.ofBool (decide (a < b)) :=
  congrArg BitVec.ofBool (Routing.slt_ofNat32 ha hb)

theorem ofNat_inj {a b : ℕ} (ha : a < 2 ^ 31) (hb : b < 2 ^ 31) : BitVec.ofNat 32 a = BitVec.ofNat 32 b ↔ a = b := by
  constructor
  · intro h
    have := congrArg BitVec.toNat h
    rw [BitVec.toNat_ofNat, BitVec.toNat_ofNat, Nat.mod_eq_of_lt (by omega), Nat.mod_eq_of_lt (by omega)] at this
    exact this
  · rintro rfl
    rfl

theorem cmpi_eq {a b : ℕ} (ha : a < 2 ^ 31) (hb : b < 2 ^ 31) :
    IntOp.cmpi .eq (BitVec.ofNat 32 a) (BitVec.ofNat 32 b) = BitVec.ofBool (decide (a = b)) := by
  show BitVec.ofBool (BitVec.ofNat 32 a == BitVec.ofNat 32 b) = _
  congr 1
  rw [Bool.eq_iff_iff]
  simp [ofNat_inj ha hb]

/-- A bit as a float. -/
theorem bit_val (p : Prop) [Decidable p] :
    FloatOps.sitofp (F := Ideal) FTy.f32 (BitVec.setWidth 32 (BitVec.ofBool (decide p))) = (if p then (1 : EReal) else 0) := by
  show (((BitVec.setWidth 32 (BitVec.ofBool (decide p))).toInt : ℝ) : EReal) = _
  by_cases h : p <;> simp [h]

theorem ofBits_bot : Ideal.ofBits FTy.f32 4286578688#32 = (⊥ : EReal) := by
  simp [Ideal.ofBits, Ideal.ieee]

theorem ofBits_256 : Ideal.ofBits FTy.f32 1132462080#32 = ((256 : ℝ) : EReal) := by
  simp [Ideal.ofBits, Ideal.ieee, -EReal.coe_mul]
  norm_num

/-- A natural as a float. -/
theorem word_val {n : ℕ} (h : n < 2 ^ 31) : FloatOps.sitofp (F := Ideal) FTy.f32 (BitVec.ofNat 32 n) = ((n : ℕ) : EReal) := by
  show (((BitVec.ofNat 32 n).toInt : ℝ) : EReal) = _
  rw [WordCmp.toInt_ofNat_of_lt (w := 32) h]
  simp

theorem fptosi_nat {n : ℕ} (h : n < 2 ^ 31) : Ideal.fptosi 32 ((n : ℕ) : EReal) = BitVec.ofNat 32 n := by
  rw [← EReal.coe_natCast]
  unfold Ideal.fptosi
  have : Ideal.toIntClamped (-(2 ^ (32 - 1) : ℕ)) ((2 ^ (32 - 1) : ℕ) - 1) (((n : ℝ)) : EReal) = (n : ℤ) := by
    show max _ (min _ (if (0 : ℝ) ≤ (n : ℝ) then ⌊(n : ℝ)⌋ else ⌈(n : ℝ)⌉)) = (n : ℤ)
    rw [if_pos (Nat.cast_nonneg n), Int.floor_natCast]
    omega
  rw [this]
  simp

theorem div_256 (n : ℕ) : Ideal.div ((n : ℕ) : EReal) ((256 : ℝ) : EReal) = (((n : ℝ) / 256 : ℝ) : EReal) := by
  rw [Ideal.div_coe (by norm_num), ← EReal.coe_natCast, ← EReal.coe_mul]
  congr 1
  ring

/-- Whole tiles. -/
theorem div_256_mul (n : ℕ) : Ideal.div ((256 * n : ℕ) : EReal) ((256 : ℝ) : EReal) = ((n : ℕ) : EReal) := by
  rw [div_256, ← EReal.coe_natCast]
  congr 1
  push_cast
  ring

/-- Rounding up to whole tiles. -/
theorem ceil_256 (n : ℕ) : Ideal.liftRound Int.ceil (Ideal.div ((n : ℕ) : EReal) ((256 : ℝ) : EReal)) * ((256 : ℝ) : EReal)
    = ((256 * ((n + 255) / 256) : ℕ) : EReal) := by
  have h1 : n ≤ 256 * ((n + 255) / 256) := by omega
  have h2 : 256 * ((n + 255) / 256) < n + 256 := by omega
  generalize (n + 255) / 256 = k at h1 h2 ⊢
  have hc : ⌈(n : ℝ) / 256⌉ = (k : ℤ) := by
    have h1' : (n : ℝ) ≤ 256 * (k : ℝ) := by exact_mod_cast h1
    have h2' : 256 * (k : ℝ) < n + 256 := by exact_mod_cast h2
    rw [Int.ceil_eq_iff]
    constructor
    · rw [lt_div_iff₀ (by norm_num)]
      push_cast
      linarith
    · rw [div_le_iff₀ (by norm_num)]
      push_cast
      linarith
  rw [div_256]
  show (((⌈(n : ℝ) / 256⌉ : ℝ)) : EReal) * _ = _
  rw [hc, ← EReal.coe_mul, ← EReal.coe_natCast]
  congr 1
  push_cast
  ring

/-- A sum of naturals. -/
theorem sum_nat {ι : Type} (s : Finset ι) (f : ι → ℕ) : ∑ x ∈ s, ((f x : ℕ) : EReal) = ((∑ x ∈ s, f x : ℕ) : EReal) := by
  rw [Nat.cast_sum]

/-- The expert of a tile: the last one that has tokens is a bound that a nonempty expert keeps. -/
theorem min_last : ∀ p : Fin 8 → Bool, ∀ q : Fin 8, p q = true →
    IntOp.minsi (BitVec.ofNat 32 q.val) (Finset.univ.fold IntOp.maxsi 2147483648#32
      (fun k : Fin 8 => if p k = true then BitVec.ofNat 32 k.val else 0#32)) = BitVec.ofNat 32 q.val := by
  decide +kernel

theorem minsi_nat {a b : ℕ} (ha : a < 2 ^ 31) (hb : b < 2 ^ 31) :
    IntOp.minsi (BitVec.ofNat 32 a) (BitVec.ofNat 32 b) = BitVec.ofNat 32 (min a b) := by
  unfold IntOp.minsi
  rw [Routing.slt_ofNat32 ha hb]
  by_cases h : a < b
  · simp [h, min_eq_left h.le]
  · simp [h, min_eq_right (not_lt.mp h)]

end Cert.Proof.Numbers

end
-- ==== Proof.RouterChoice.lean ====
/-
  What the router chooses, read at one token: its eight logits, the first and the second choice of them, and the two
  gates. `lg x wg b t` are the logits of token `t`.
-/
module

public import proofs.«01_k».proof.Proof.Router
public import proofs.«01_k».proof.Proof.Spec
public import proofs.«01_k».proof.Proof.Numbers

@[expose] public section

set_option maxRecDepth 16384

noncomputable section

namespace Cert.Proof.Router

open Cert.KernelIdeal Cert.KernelIdeal.Gen
open Idealize.ShloMosaic Cert.Proof.Choice Cert.Proof.Numbers
open Cert.Proof.Spec (ratio)

variable (x : Vec Ideal S2048x768 .f32) (wg : Vec Ideal S768x8 .f32) (b : Vec Ideal S1x8 .f32)

/-- The logits of token `t`. -/
def lg (t : Fin 2048) (e : Fin 8) : EReal := ∑ k : Fin 768, x (ix2 t k) * wg (ix2 k e) + b (ix2 0 e)

theorem pay1_at (t : Fin 2048) (e : Fin 8) : k0_pay1 x wg b (ix2 t e) = lg x wg b t e := by
  pointwise [k0_pay1]
  rfl

theorem pay2_at (t : Fin 2048) : k0_pay2 x wg b (ix2 t 0) = lg x wg b t (first (lg x wg b t)) := by
  pointwise [k0_pay2]
  simp only [pay1_at, ofBits_bot]
  exact fold_max _

theorem pay3_at (t : Fin 2048) (e : Fin 8) :
    k0_pay3 x wg b (ix2 t e) = BitVec.ofBool (decide (e = first (lg x wg b t))) := by
  pointwise [k0_pay3]
  simp only [pay1_at, pay2_at]
  rw [fold_least, cmpi_eq (by omega) (by omega)]
  simp only [Fin.ext_iff]

theorem pay4_at (t : Fin 2048) (e : Fin 8) : k0_pay4 x wg b (ix2 t e) = masked (lg x wg b t) e := by
  pointwise [k0_pay4]
  simp only [pay1_at, pay3_at, ofBits_bot]
  unfold masked Scalar.select
  by_cases h : e = first (lg x wg b t) <;> simp [h]

theorem pay5_at (t : Fin 2048) : k0_pay5 x wg b (ix2 t 0) = masked (lg x wg b t) (second (lg x wg b t)) := by
  pointwise [k0_pay5]
  simp only [pay4_at, ofBits_bot]
  exact fold_max _

theorem pay6_at (t : Fin 2048) (e : Fin 8) :
    k0_pay6 x wg b (ix2 t e) = BitVec.ofBool (decide (e = second (lg x wg b t))) := by
  pointwise [k0_pay6]
  simp only [pay4_at, pay5_at]
  rw [show second (lg x wg b t) = first (masked (lg x wg b t)) from rfl, fold_least, cmpi_eq (by omega) (by omega)]
  simp only [Fin.ext_iff]

variable {x wg b}

theorem pay7_at {t : Fin 2048} (hf : ∀ e, lg x wg b t e ≠ ⊥) : k0_pay7 x wg b (ix2 t 0) = ratio (lg x wg b t) := by
  pointwise [k0_pay7]
  rw [pay5_at, pay2_at, masked_second hf]
  rfl

theorem gate0_at {t : Fin 2048} (hf : ∀ e, lg x wg b t e ≠ ⊥) :
    gate0 x wg b (ix2 t 0) = Spec.gate0 (lg x wg b t) := by
  unfold gate0 Spec.gate0
  pointwise [k0_pay8]
  rw [pay7_at hf]

theorem gate1_at {t : Fin 2048} (hf : ∀ e, lg x wg b t e ≠ ⊥) :
    gate1 x wg b (ix2 t 0) = Spec.gate1 (lg x wg b t) := by
  unfold gate1 Spec.gate1
  pointwise [k0_pay10, k0_pay9]
  rw [pay7_at hf]

end Cert.Proof.Router

end
-- ==== Proof.Entered.lean ====
/-
  What the second call finds, in terms of the program's arguments: the tokens and the biases reshaped, the weights as
  launched, and the places, the gates and the three tables as the router wrote them.
-/
module

public import proofs.«01_k».proof.Proof.State
public import proofs.«01_k».proof.Proof.Spec
public import proofs.«01_k».proof.Proof.RouterChoice

@[expose] public section

set_option maxRecDepth 16384

noncomputable section

namespace Cert.Proof.Launch

open Cert.KernelIdeal Cert.KernelIdeal.Gen
open Idealize.ShloMosaic Idealize.ShloMosaic.TcCoe

section
variable {F : FTy → Type} [FloatOps F]

theorem after_v0 (W : Valuation τ sig (Elt F)) : StableHlo.after hostOps0 W (Proc.devRef .tc main_v0) = shapeCast S2048x768 (W (Proc.devRef .tc main_arg0)) shapeCasts_S1x2048x768_S2048x768 := by
  simp only [hostOps0, StableHlo.after_cons, StableHlo.after_nil]
  rw [StableHlo.reshape_result_ne _ _ _ _ _ _ _ (show main_v0 ≠ main_v3 by decide)]
  rw [StableHlo.reshape_result_ne _ _ _ _ _ _ _ (show main_v0 ≠ main_v2 by decide)]
  rw [StableHlo.reshape_result_ne _ _ _ _ _ _ _ (show main_v0 ≠ main_v1 by decide)]
  rw [StableHlo.reshape_result]
  rfl
theorem after_v1 (W : Valuation τ sig (Elt F)) : StableHlo.after hostOps0 W (Proc.devRef .tc main_v1) = shapeCast S1x8 (W (Proc.devRef .tc main_arg2)) shapeCasts_S8_S1x8 := by
  simp only [hostOps0, StableHlo.after_cons, StableHlo.after_nil]
  rw [StableHlo.reshape_result_ne _ _ _ _ _ _ _ (show main_v1 ≠ main_v3 by decide)]
  rw [StableHlo.reshape_result_ne _ _ _ _ _ _ _ (show main_v1 ≠ main_v2 by decide)]
  rw [StableHlo.reshape_result]
  rw [StableHlo.reshape_result_ne _ _ _ _ _ _ _ (show main_arg2 ≠ main_v0 by decide)]
  rfl
theorem after_v2 (W : Valuation τ sig (Elt F)) : StableHlo.after hostOps0 W (Proc.devRef .tc main_v2) = shapeCast S8x1x3072 (W (Proc.devRef .tc main_arg4)) shapeCasts_S8x3072_S8x1x3072 := by
  simp only [hostOps0, StableHlo.after_cons, StableHlo.after_nil]
  rw [StableHlo.reshape_result_ne _ _ _ _ _ _ _ (show main_v2 ≠ main_v3 by decide)]
  rw [StableHlo.reshape_result]
  rw [StableHlo.reshape_result_ne _ _ _ _ _ _ _ (show main_arg4 ≠ main_v1 by decide)]
  rw [StableHlo.reshape_result_ne _ _ _ _ _ _ _ (show main_arg4 ≠ main_v0 by decide)]
  rfl
theorem after_v3 (W : Valuation τ sig (Elt F)) : StableHlo.after hostOps0 W (Proc.devRef .tc main_v3) = shapeCast S8x1x768 (W (Proc.devRef .tc main_arg6)) shapeCasts_S8x768_S8x1x768 := by
  simp only [hostOps0, StableHlo.after_cons, StableHlo.after_nil]
  rw [StableHlo.reshape_result]
  rw [StableHlo.reshape_result_ne _ _ _ _ _ _ _ (show main_arg6 ≠ main_v2 by decide)]
  rw [StableHlo.reshape_result_ne _ _ _ _ _ _ _ (show main_arg6 ≠ main_v1 by decide)]
  rw [StableHlo.reshape_result_ne _ _ _ _ _ _ _ (show main_arg6 ≠ main_v0 by decide)]
  rfl
end

variable (m : (ℓ : Loc nD τ sig) → Buf (Elt Ideal) ℓ) (c : Dev nD)

/-- The program's arguments. -/
abbrev aX : Vec Ideal S1x2048x768 .f32 := m ((c.tc : Thread nD τ).loc main_arg0)
abbrev aWg : Vec Ideal S768x8 .f32 := m ((c.tc : Thread nD τ).loc main_arg1)
abbrev aBg : Vec Ideal S8 .f32 := m ((c.tc : Thread nD τ).loc main_arg2)
abbrev aW1 : Vec Ideal S8x768x3072 .f32 := m ((c.tc : Thread nD τ).loc main_arg3)
abbrev aB1 : Vec Ideal S8x3072 .f32 := m ((c.tc : Thread nD τ).loc main_arg4)
abbrev aW2 : Vec Ideal S8x3072x768 .f32 := m ((c.tc : Thread nD τ).loc main_arg5)
abbrev aB2 : Vec Ideal S8x768 .f32 := m ((c.tc : Thread nD τ).loc main_arg6)

theorem X_eq : X m c = shapeCast S2048x768 (aX m c) shapeCasts_S1x2048x768_S2048x768 := after_v0 (V0 m c)
theorem G_eq : G m c = aWg m c := V1_of m c main_arg1 (by decide)
theorem B_eq : B m c = shapeCast S1x8 (aBg m c) shapeCasts_S8_S1x8 := after_v1 (V0 m c)

theorem X_at (t : Fin 2048) (k : Fin 768) : X m c (ix2 t k) = aX m c (ix3 0 t k) := by
  rw [X_eq]
  pointwise

theorem lg_eq (t : Fin 2048) : Router.lg (X m c) (G m c) (B m c) t = Spec.logits (aX m c) (aWg m c) (aBg m c) t := by
  funext e
  unfold Router.lg Spec.logits
  rw [X_eq, G_eq, B_eq]
  pointwise

/-- A buffer that neither the router nor the reshapes after it write. -/
theorem entered_of (r : Ref sig .tc) (h1 : r ∉ hostOps1_W) (h : ∀ w, Pipeline.arrRef spec0 w = r → (cfg0.win w).isOut = false) :
    entered m c (Proc.devRef .tc r) = V1 m c (Proc.devRef .tc r) :=
  (entered_keeps m c r h1).trans (routed_keeps m c r h)

theorem ent_x (t : Fin 2048) (k : Fin 768) : entered m c main_v0 (ix2 t k) = aX m c (ix3 0 t k) := by
  rw [entered_of m c main_v0 (by decide) (by decide)]
  exact X_at m c t k

theorem ent_w1 : entered m c main_arg3 = aW1 m c :=
  (entered_of m c main_arg3 (by decide) (by decide)).trans (V1_of m c main_arg3 (by decide))
theorem ent_w2 : entered m c main_arg5 = aW2 m c :=
  (entered_of m c main_arg5 (by decide) (by decide)).trans (V1_of m c main_arg5 (by decide))

theorem ent_b1 (e : Fin 8) (k : Fin 3072) : entered m c main_v2 (ix3 e 0 k) = aB1 m c (ix2 e k) := by
  rw [entered_of m c main_v2 (by decide) (by decide)]
  unfold V1
  rw [after_v2]
  pointwise
theorem ent_b2 (e : Fin 8) (k : Fin 768) : entered m c main_v3 (ix3 e 0 k) = aB2 m c (ix2 e k) := by
  rw [entered_of m c main_v3 (by decide) (by decide)]
  unfold V1
  rw [after_v3]
  pointwise

theorem ent_q0 : entered m c main_v4_0 = Router.pos0 (X m c) (G m c) (B m c) :=
  (entered_keeps m c main_v4_0 (by decide)).trans ((routed_out m c 3).trans (Router.arr_3 (V1 m) c))
theorem ent_q1 : entered m c main_v4_1 = Router.pos1 (X m c) (G m c) (B m c) :=
  (entered_keeps m c main_v4_1 (by decide)).trans ((routed_out m c 4).trans (Router.arr_4 (V1 m) c))
theorem ent_g0 : entered m c main_v4_2 = Router.gate0 (X m c) (G m c) (B m c) :=
  (entered_keeps m c main_v4_2 (by decide)).trans ((routed_out m c 5).trans (Router.arr_5 (V1 m) c))
theorem ent_g1 : entered m c main_v4_3 = Router.gate1 (X m c) (G m c) (B m c) :=
  (entered_keeps m c main_v4_3 (by decide)).trans ((routed_out m c 6).trans (Router.arr_6 (V1 m) c))

theorem ent_p0 (t : Fin 2048) : entered m c main_v8 (ix2 0 t) = Router.pos0 (X m c) (G m c) (B m c) (ix2 t 0) := by
  unfold entered
  rw [after_v8, (routed_out m c 3).trans (Router.arr_3 (V1 m) c)]
  pointwise
theorem ent_p1 (t : Fin 2048) : entered m c main_v9 (ix2 0 t) = Router.pos1 (X m c) (G m c) (B m c) (ix2 t 0) := by
  unfold entered
  rw [after_v9, (routed_out m c 4).trans (Router.arr_4 (V1 m) c)]
  pointwise

theorem entry_ix1 (r : Vec Ideal S32 .i32) (i : grid1.Coords) (n : Fin 32) (h : (i 0).val = n.val) :
    Ffn.entry r i = r (Idealize.ShloMosaic.ix1 n) := by
  unfold Ffn.entry
  congr 1
  funext a
  apply Fin.ext
  fin_cases a
  exact h

theorem table0 (i : grid1.Coords) (n : Fin 32) (h : (i 0).val = n.val) :
    Ffn.entry (F := Ideal) ((adm1 m).1 0) i = Router.tileExpert (X m c) (G m c) (B m c) (ix2 0 n) := by
  rw [tables_eq m c 0]
  have e : entered m c (Proc.devRef .tc (pre1.ref 0)) = shapeCast S32 (Router.tileExpert (X m c) (G m c) (B m c)) shapeCasts_S1x32_S32 := entered_v5 m c
  rw [e]
  refine (entry_ix1 _ i n h).trans ?_
  pointwise

theorem table1 (i : grid1.Coords) (n : Fin 32) (h : (i 0).val = n.val) :
    Ffn.entry (F := Ideal) ((adm1 m).1 1) i = Router.tileRow (X m c) (G m c) (B m c) (ix2 0 n) := by
  rw [tables_eq m c 1]
  have e : entered m c (Proc.devRef .tc (pre1.ref 1)) = shapeCast S32 (Router.tileRow (X m c) (G m c) (B m c)) shapeCasts_S1x32_S32 := entered_v6 m c
  rw [e]
  refine (entry_ix1 _ i n h).trans ?_
  pointwise

theorem table2 : Ffn.word (F := Ideal) ((adm1 m).1 2) = Router.tilesUsed (X m c) (G m c) (B m c) (ix2 0 0) := by
  rw [tables_eq m c 2]
  have e : entered m c (Proc.devRef .tc (pre1.ref 2)) = shapeCast S1 (Router.tilesUsed (X m c) (G m c) (B m c)) shapeCasts_S1x1_S1 := entered_v7 m c
  rw [e]
  have h : ∀ r : Vec Ideal S1 .i32, Ffn.word r = r (Idealize.ShloMosaic.ix1 0) := fun r => by
    unfold Ffn.word
    congr 1
    funext a
    apply Fin.ext
    fin_cases a
    rfl
  refine (h _).trans ?_
  pointwise

end Cert.Proof.Launch

end
-- ==== Proof.Places.lean ====
/-
  Places in the sorted order of assignments. Each of the 2048 tokens has two experts. The assignments of an expert
  stand one after another, its first choices before its second choices, and an expert's stretch starts at a multiple
  of 256. Two assignments never have one place, the tile a place lies in belongs to its expert, and at most 23 tiles
  are in use.
-/
module

public import Idealize.ShloMosaic.Lib.Pointwise

@[expose] public section
set_option maxRecDepth 16384
noncomputable section

namespace Cert.Proof.Places

/-- One if token `s` has expert `e`. -/
def ind (i : Fin 2048 → Fin 8) (e : Fin 8) (s : ℕ) : ℕ := if h : s < 2048 then if i ⟨s, h⟩ = e then 1 else 0 else 0

/-- How many of the first `n` tokens have expert `e`. -/
def cnt (i : Fin 2048 → Fin 8) (e : Fin 8) (n : ℕ) : ℕ := ∑ s ∈ Finset.range n, ind i e s

theorem cnt_mono (i : Fin 2048 → Fin 8) (e : Fin 8) {n k : ℕ} (h : n ≤ k) : cnt i e n ≤ cnt i e k :=
  Finset.sum_le_sum_of_subset (Finset.range_mono h)

theorem cnt_lt (i : Fin 2048 → Fin 8) (t : Fin 2048) {n : ℕ} (h : t.val < n) : cnt i (i t) t.val < cnt i (i t) n := by
  refine lt_of_lt_of_le ?_ (cnt_mono i (i t) (Nat.succ_le_of_lt h))
  unfold cnt
  rw [Nat.succ_eq_add_one, Finset.sum_range_succ]
  have : ind i (i t) t.val = 1 := by simp [ind]
  omega

theorem cnt_total (i : Fin 2048 → Fin 8) : ∑ e, cnt i e 2048 = 2048 := by
  unfold cnt
  rw [Finset.sum_comm]
  rw [Finset.sum_congr rfl (g := fun _ => 1) fun s hs => ?_]
  · simp
  · have h := Finset.mem_range.mp hs
    simp [ind, h]

theorem cnt_le (i : Fin 2048 → Fin 8) (e : Fin 8) (n : ℕ) : cnt i e n ≤ n := by
  unfold cnt
  calc _ ≤ ∑ s ∈ Finset.range n, 1 := Finset.sum_le_sum fun s _ => by
        unfold ind; split <;> [split <;> omega; omega]
    _ = n := by simp

variable (i1 i2 : Fin 2048 → Fin 8)

/-- How many assignments expert `e` has. -/
def load (e : Fin 8) : ℕ := cnt i1 e 2048 + cnt i2 e 2048

/-- The tiles of 256 places its assignments fill. -/
def tiles (e : Fin 8) : ℕ := (load i1 i2 e + 255) / 256

/-- The tile its assignments start at. -/
def start (e : Fin 8) : ℕ := ∑ k ∈ Finset.univ.filter (· < e), tiles i1 i2 k

/-- The tiles in use. -/
def used : ℕ := ∑ e, tiles i1 i2 e

/-- The place of a token's first choice. -/
def p0 (t : Fin 2048) : ℕ := 256 * start i1 i2 (i1 t) + cnt i1 (i1 t) t.val

/-- The place of a token's second choice. -/
def p1 (t : Fin 2048) : ℕ := 256 * start i1 i2 (i2 t) + (cnt i1 (i2 t) 2048 + cnt i2 (i2 t) t.val)

theorem load_total : ∑ e, load i1 i2 e = 4096 := by
  unfold load
  rw [Finset.sum_add_distrib, cnt_total, cnt_total]

theorem load_le (e : Fin 8) : load i1 i2 e ≤ 4096 := by
  have := cnt_le i1 e 2048
  have := cnt_le i2 e 2048
  unfold load
  omega

theorem load_le_tiles (e : Fin 8) : load i1 i2 e ≤ 256 * tiles i1 i2 e := by
  unfold tiles
  omega

theorem used_le : used i1 i2 ≤ 23 := by
  have h : 256 * used i1 i2 ≤ 4096 + 8 * 255 := by
    rw [← load_total i1 i2, used, Finset.mul_sum]
    calc _ ≤ ∑ e, (load i1 i2 e + 255) := Finset.sum_le_sum fun e _ => by unfold tiles; omega
      _ = _ := by simp [Finset.sum_add_distrib]
  omega

theorem start_add_le {e k : Fin 8} (h : e < k) : start i1 i2 e + tiles i1 i2 e ≤ start i1 i2 k := by
  unfold start
  have hd : e ∉ Finset.univ.filter (· < e) := by simp
  rw [add_comm, ← Finset.sum_insert hd]
  refine Finset.sum_le_sum_of_subset fun x hx => ?_
  simp only [Finset.mem_insert, Finset.mem_filter, Finset.mem_univ, true_and] at hx ⊢
  rcases hx with rfl | hx
  · exact h
  · exact hx.trans h

theorem start_add_le_used (e : Fin 8) : start i1 i2 e + tiles i1 i2 e ≤ used i1 i2 := by
  unfold start used
  have hd : e ∉ Finset.univ.filter (· < e) := by simp
  rw [add_comm, ← Finset.sum_insert hd]
  exact Finset.sum_le_sum_of_subset (Finset.subset_univ _)

/-- A place belongs to expert `e` at rank `a`. -/
def At (p : ℕ) (e : Fin 8) (a : ℕ) : Prop := p = 256 * start i1 i2 e + a ∧ a < load i1 i2 e

theorem at_p0 (t : Fin 2048) : At i1 i2 (p0 i1 i2 t) (i1 t) (cnt i1 (i1 t) t.val) :=
  ⟨rfl, by have := cnt_lt i1 t t.isLt; unfold load; omega⟩

theorem at_p1 (t : Fin 2048) : At i1 i2 (p1 i1 i2 t) (i2 t) (cnt i1 (i2 t) 2048 + cnt i2 (i2 t) t.val) :=
  ⟨rfl, by have := cnt_lt i2 t t.isLt; unfold load; omega⟩

variable {i1 i2}

theorem at_tile {p a : ℕ} {e : Fin 8} (h : At i1 i2 p e a) :
    start i1 i2 e ≤ p / 256 ∧ p / 256 < start i1 i2 e + tiles i1 i2 e := by
  obtain ⟨rfl, h⟩ := h
  have := load_le_tiles i1 i2 e
  omega

theorem at_unique {p a b : ℕ} {e k : Fin 8} (h : At i1 i2 p e a) (h' : At i1 i2 p k b) : e = k ∧ a = b := by
  have t1 := at_tile h
  have t2 := at_tile h'
  have he : e = k := by
    rcases lt_trichotomy e k with l | l | l
    · have := start_add_le i1 i2 l; omega
    · exact l
    · have := start_add_le i1 i2 l; omega
  subst he
  exact ⟨rfl, by have := h.1; have := h'.1; omega⟩

theorem at_used {p a : ℕ} {e : Fin 8} (h : At i1 i2 p e a) : p / 256 < used i1 i2 :=
  (at_tile h).2.trans_le (start_add_le_used i1 i2 e)

theorem at_lt {p a : ℕ} {e : Fin 8} (h : At i1 i2 p e a) : p < 5888 := by
  have := at_used h
  have := used_le i1 i2
  omega

/-- The tiles that end at or before the tile of a place are those of the experts before its own. -/
theorem at_count {p a : ℕ} {e : Fin 8} (h : At i1 i2 p e a) :
    (Finset.univ.filter fun k => start i1 i2 k + tiles i1 i2 k ≤ p / 256).card = e.val := by
  have t1 := at_tile h
  rw [show (Finset.univ.filter fun k => start i1 i2 k + tiles i1 i2 k ≤ p / 256) = Finset.univ.filter (· < e) from ?_]
  · exact (by decide +kernel : ∀ k : Fin 8, (Finset.univ.filter (· < k)).card = k.val) e
  · ext k
    simp only [Finset.mem_filter, Finset.mem_univ, true_and]
    constructor
    · intro hk
      rcases lt_trichotomy e k with l | l | l
      · have := start_add_le i1 i2 l; omega
      · subst l; omega
      · exact l
    · intro hk
      have := start_add_le i1 i2 hk
      omega

theorem at_load {p a : ℕ} {e : Fin 8} (h : At i1 i2 p e a) : 0 < load i1 i2 e := (Nat.zero_le a).trans_lt h.2

variable (i1 i2)

theorem used_pos : 1 ≤ used i1 i2 := (Nat.zero_le _).trans_lt (at_used (at_p0 i1 i2 0))

theorem p0_inj {t s : Fin 2048} (h : p0 i1 i2 t = p0 i1 i2 s) : t = s := by
  have k := at_unique (at_p0 i1 i2 t) (h ▸ at_p0 i1 i2 s)
  rcases lt_trichotomy t s with l | l | l
  · have := cnt_lt i1 t (n := s.val) l
    rw [k.2, k.1] at this
    exact absurd this (lt_irrefl _)
  · exact l
  · have := cnt_lt i1 s (n := t.val) l
    rw [← k.2, k.1] at this
    exact absurd this (lt_irrefl _)

theorem p1_inj {t s : Fin 2048} (h : p1 i1 i2 t = p1 i1 i2 s) : t = s := by
  have k := at_unique (at_p1 i1 i2 t) (h ▸ at_p1 i1 i2 s)
  have k2 : cnt i2 (i2 t) t.val = cnt i2 (i2 s) s.val := by
    have := k.2
    rw [k.1] at this ⊢
    omega
  rcases lt_trichotomy t s with l | l | l
  · have := cnt_lt i2 t (n := s.val) l
    rw [k2, k.1] at this
    exact absurd this (lt_irrefl _)
  · exact l
  · have := cnt_lt i2 s (n := t.val) l
    rw [← k2, k.1] at this
    exact absurd this (lt_irrefl _)

theorem p0_ne_p1 (t s : Fin 2048) : p0 i1 i2 t ≠ p1 i1 i2 s := by
  intro h
  have k := at_unique (at_p0 i1 i2 t) (h ▸ at_p1 i1 i2 s)
  have := cnt_lt i1 t t.isLt
  rw [← k.1] at k
  have := k.2
  omega

end Cert.Proof.Places

end
-- ==== Proof.RouterCount.lean ====
/-
  The router's counts read at the ideal instance. With the two choices given as masks, the running counts, the whole
  tiles, their starts and the two places are the naturals of `Places`, and the three tables are words of them.
-/
module

public import proofs.«01_k».proof.Proof.Router
public import proofs.«01_k».proof.Proof.Places
public import proofs.«01_k».proof.Proof.Numbers

@[expose] public section

set_option maxRecDepth 16384

noncomputable section

namespace Cert.Proof.Router

open Cert.KernelIdeal Cert.KernelIdeal.Gen
open Idealize.ShloMosaic Cert.Proof.Places Cert.Proof.Numbers

/-! ## Sums over a block of 512 tokens -/

theorem cnt_add (i : Fin 2048 → Fin 8) (e : Fin 8) (off n : ℕ) :
    cnt i e (off + n) = cnt i e off + ∑ s ∈ Finset.range n, ind i e (off + s) := by
  unfold cnt
  rw [Finset.sum_range_add]

theorem sum_below (g : ℕ → ℕ) {n : ℕ} (hn : n ≤ 512) :
    ∑ s : Fin 512, (if s.val < n then g s.val else 0) = ∑ s ∈ Finset.range n, g s := by
  rw [Fin.sum_univ_eq_sum_range (fun s => if s < n then g s else 0) 512, ← Finset.sum_filter]
  congr 1
  ext s
  simp only [Finset.mem_filter, Finset.mem_range]
  omega

/-- The triangular product of a block, added to what stands before the block. -/
theorem block_sum (i : Fin 2048 → Fin 8) (e : Fin 8) (A off n : ℕ) (hn : n < 512) :
    ∑ s : Fin 512, FloatOps.sitofp (F := Ideal) FTy.f32
        (BitVec.setWidth 32 (IntOp.cmpi .slt (BitVec.ofNat 32 s.val) (BitVec.ofNat 32 n))) * ((ind i e (off + s.val) : ℕ) : EReal)
      + ((A + cnt i e off : ℕ) : EReal) = ((A + cnt i e (off + n) : ℕ) : EReal) := by
  have h : ∀ s : Fin 512, FloatOps.sitofp (F := Ideal) FTy.f32
        (BitVec.setWidth 32 (IntOp.cmpi .slt (BitVec.ofNat 32 s.val) (BitVec.ofNat 32 n))) * ((ind i e (off + s.val) : ℕ) : EReal)
      = (((if s.val < n then ind i e (off + s.val) else 0) : ℕ) : EReal) := fun s => by
    rw [cmpi_slt (by omega) (by omega), bit_val]
    split
    · exact one_mul _
    · rw [zero_mul, Nat.cast_zero]
  rw [Finset.sum_congr rfl fun s _ => h s, sum_nat, sum_below (fun s => ind i e (off + s)) hn.le, ← Nat.cast_add, cnt_add,
    add_comm, Nat.add_assoc]

/-- A whole block, added to what stands before it. -/
theorem block_all (i : Fin 2048 → Fin 8) (e : Fin 8) (A off : ℕ) :
    ((A + cnt i e off : ℕ) : EReal) + ∑ s : Fin 512, ((ind i e (off + s.val) : ℕ) : EReal)
      = ((A + cnt i e (off + 512) : ℕ) : EReal) := by
  rw [sum_nat, ← Nat.cast_add, cnt_add, Fin.sum_univ_eq_sum_range (fun s => ind i e (off + s)) 512, Nat.add_assoc]

theorem block_all0 (i : Fin 2048 → Fin 8) (e : Fin 8) (off : ℕ) :
    ((cnt i e off : ℕ) : EReal) + ∑ s : Fin 512, ((ind i e (off + s.val) : ℕ) : EReal)
      = ((cnt i e (off + 512) : ℕ) : EReal) := by
  have h := block_all i e 0 off
  rwa [Nat.zero_add, Nat.zero_add] at h

theorem pos_nat (n : ℕ) : (0 : EReal) < ((n : ℕ) : EReal) ↔ 0 < n := by
  rw [← Nat.cast_zero (R := EReal)]
  exact Nat.cast_lt

theorem cnt_zero (i : Fin 2048 → Fin 8) (e : Fin 8) : cnt i e 0 = 0 := rfl

theorem block_first (i : Fin 2048 → Fin 8) (e : Fin 8) :
    ∑ s : Fin 512, ((ind i e s.val : ℕ) : EReal) = ((cnt i e 512 : ℕ) : EReal) := by
  rw [sum_nat, Fin.sum_univ_eq_sum_range (fun s => ind i e s) 512]
  rfl

/-! ## The first choices -/

section First

variable {s : IVec S2048x8 1} {i : Fin 2048 → Fin 8} (hs : ∀ t e, s (ix2 t e) = BitVec.ofBool (decide (e = i t)))

include hs

theorem ind_of (t : Fin 2048) (e : Fin 8) :
    FloatOps.sitofp (F := Ideal) FTy.f32 (BitVec.setWidth 32 (s (ix2 t e))) = ((ind i e t.val : ℕ) : EReal) := by
  rw [hs, bit_val, ind, dif_pos t.isLt]
  by_cases h : e = i t
  · rw [if_pos h, if_pos h.symm, Nat.cast_one]
  · rw [if_neg h, if_neg (Ne.symm h), Nat.cast_zero]

theorem pay11_at (t : Fin 2048) (e : Fin 8) : k0_pay11 (F := Ideal) s (ix2 t e) = ((ind i e t.val : ℕ) : EReal) := by
  pointwise [k0_pay11]
  exact ind_of hs t e

theorem pay12_at (t : Fin 2048) (e : Fin 8) : k0_pay12 (F := Ideal) s (ix2 t e) = ((ind i e t.val : ℕ) : EReal) := by
  pointwise [k0_pay12]
  exact ind_of hs t e

theorem pay16_at (e : Fin 8) : k0_pay16 (F := Ideal) s (ix2 0 e) = ((cnt i e 512 : ℕ) : EReal) := by
  pointwise [k0_pay16, k0_pay15, k0_pay14]
  simp only [pay11_at hs]
  exact block_first i e

theorem pay18_at (e : Fin 8) : k0_pay18 (F := Ideal) s (ix2 0 e) = ((cnt i e 1024 : ℕ) : EReal) := by
  pointwise [k0_pay18, k0_pay17]
  simp only [pay11_at hs, pay16_at hs]
  exact block_all0 i e 512

theorem pay20_at (e : Fin 8) : k0_pay20 (F := Ideal) s (ix2 0 e) = ((cnt i e 1536 : ℕ) : EReal) := by
  pointwise [k0_pay20, k0_pay19]
  simp only [pay11_at hs, pay18_at hs]
  exact block_all0 i e 1024

theorem pay22_at (e : Fin 8) : k0_pay22 (F := Ideal) s (ix2 0 e) = ((cnt i e 2048 : ℕ) : EReal) := by
  pointwise [k0_pay22, k0_pay21]
  simp only [pay11_at hs, pay20_at hs]
  exact block_all0 i e 1536

theorem pay23_at (t : Fin 2048) (e : Fin 8) : k0_pay23 (F := Ideal) s (ix2 t e) = ((cnt i e t.val : ℕ) : EReal) := by
  pointwise [k0_pay23, k0_pay15, k0_pay17, k0_pay19, k0_pay21, k0_pay13]
  simp only [pay11_at hs, pay16_at hs, pay18_at hs, pay20_at hs]
  have ht := t.isLt
  by_cases h1 : t.val < 512
  · rw [dif_pos h1]
    have := block_sum i e 0 0 t.val h1
    simp only [zero_add] at this
    rw [← this]
    congr 1
    pointwise [k0_pay14]
    simp [cnt]
  rw [dif_neg h1]
  by_cases h2 : t.val - 512 < 512
  · rw [dif_pos h2]
    have := block_sum i e 0 512 _ h2
    simp only [zero_add] at this
    rw [this]
    congr 2
    omega
  rw [dif_neg h2]
  by_cases h3 : t.val - 512 - 512 < 512
  · rw [dif_pos h3]
    have := block_sum i e 0 1024 _ h3
    simp only [zero_add] at this
    rw [this]
    congr 2
    omega
  rw [dif_neg h3]
  have := block_sum i e 0 1536 (t.val - 512 - 512 - 512) (by omega)
  simp only [zero_add] at this
  rw [this]
  congr 2
  omega

end First

/-! ## Both choices -/

section Both

variable {s1 s2 : IVec S2048x8 1} {i1 i2 : Fin 2048 → Fin 8}
  (h1 : ∀ t e, s1 (ix2 t e) = BitVec.ofBool (decide (e = i1 t)))
  (h2 : ∀ t e, s2 (ix2 t e) = BitVec.ofBool (decide (e = i2 t)))

include h1 h2

theorem pay25_at (t : Fin 512) (e : Fin 8) :
    k0_pay25 (F := Ideal) s1 s2 (ix2 t e) = ((cnt i1 e 2048 + cnt i2 e t.val : ℕ) : EReal) := by
  pointwise [k0_pay25, k0_pay24, k0_pay13]
  simp only [pay12_at h2, pay22_at h1]
  have := block_sum i2 e (cnt i1 e 2048) 0 t.val t.isLt
  simp only [zero_add] at this
  rw [cnt_zero, Nat.add_zero] at this
  exact this

omit h1 in
theorem pay26_at (e : Fin 8) : k0_pay26 (F := Ideal) s2 (ix1 e) = ((cnt i2 e 512 : ℕ) : EReal) := by
  pointwise [k0_pay26, k0_pay24]
  simp only [pay12_at h2]
  exact block_first i2 e

theorem pay27_at (e : Fin 8) : k0_pay27 (F := Ideal) (k0_pay22 s1) (k0_pay26 s2) (ix2 0 e)
    = ((cnt i1 e 2048 + cnt i2 e 512 : ℕ) : EReal) := by
  pointwise [k0_pay27]
  rw [pay22_at h1, pay26_at h2, ← Nat.cast_add]

theorem pay29_at (e : Fin 8) : k0_pay29 (F := Ideal) (k0_pay12 s2) (k0_pay22 s1) (k0_pay26 s2) (ix2 0 e)
    = ((cnt i1 e 2048 + cnt i2 e 1024 : ℕ) : EReal) := by
  pointwise [k0_pay29, k0_pay28]
  simp only [pay27_at h1 h2, pay12_at h2]
  exact block_all i2 e (cnt i1 e 2048) 512

theorem pay31_at (e : Fin 8) : k0_pay31 (F := Ideal) (k0_pay12 s2) (k0_pay22 s1) (k0_pay26 s2) (ix2 0 e)
    = ((cnt i1 e 2048 + cnt i2 e 1536 : ℕ) : EReal) := by
  pointwise [k0_pay31, k0_pay30]
  simp only [pay29_at h1 h2, pay12_at h2]
  exact block_all i2 e (cnt i1 e 2048) 1024

theorem pay33_at (e : Fin 8) : k0_pay33 (F := Ideal) (k0_pay12 s2) (k0_pay22 s1) (k0_pay26 s2) (ix2 0 e)
    = ((load i1 i2 e : ℕ) : EReal) := by
  pointwise [k0_pay33, k0_pay32]
  simp only [pay31_at h1 h2, pay12_at h2]
  exact block_all i2 e (cnt i1 e 2048) 1536

theorem pay34_at (e : Fin 8) : k0_pay34 (F := Ideal) (k0_pay12 s2) (k0_pay22 s1) (k0_pay26 s2) (ix2 0 e)
    = ((256 * tiles i1 i2 e : ℕ) : EReal) := by
  pointwise [k0_pay34]
  rw [pay33_at h1 h2, ofBits_256]
  exact ceil_256 _

theorem pay35_at (e : Fin 8) : k0_pay35 (F := Ideal) (k0_pay12 s2) (k0_pay22 s1) (k0_pay26 s2) (ix2 0 e)
    = ((256 * start i1 i2 e : ℕ) : EReal) := by
  pointwise [k0_pay35]
  have h : ∀ k : Fin 8, k0_pay34 (F := Ideal) (k0_pay12 s2) (k0_pay22 s1) (k0_pay26 s2) (ix2 0 k)
      * FloatOps.sitofp (F := Ideal) FTy.f32 (BitVec.setWidth 32 (IntOp.cmpi .slt (BitVec.ofNat 32 k.val) (BitVec.ofNat 32 e.val)))
      = (((if k < e then 256 * tiles i1 i2 k else 0) : ℕ) : EReal) := fun k => by
    rw [pay34_at h1 h2, cmpi_slt (by omega) (by omega), bit_val]
    by_cases hk : k < e
    · rw [if_pos hk, if_pos (Fin.lt_def.mp hk), mul_one]
    · rw [if_neg hk, if_neg (fun h => hk (Fin.lt_def.mpr h)), mul_zero, Nat.cast_zero]
  rw [Finset.sum_congr rfl fun k _ => h k, sum_nat, ← Finset.sum_filter, start, Finset.mul_sum]

/-- A row of the mask picks one column. -/
theorem pick (i : Fin 2048 → Fin 8) (t : Fin 2048) (g : Fin 8 → EReal) :
    ∑ e : Fin 8, g e * ((ind i e t.val : ℕ) : EReal) = g (i t) := by
  rw [Finset.sum_eq_single (i t)]
  · simp [ind]
  · intro e _ he
    simp [ind, Ne.symm he]
  · intro h
    exact absurd (Finset.mem_univ _) h

theorem pay36_at (t : Fin 2048) :
    k0_pay36 (F := Ideal) (k0_pay12 s2) k0_pay13 (k0_pay22 s1) (k0_pay25 s1 s2) (k0_pay26 s2) (ix2 t 0)
      = ((p1 i1 i2 t : ℕ) : EReal) := by
  pointwise [k0_pay36, k0_pay32, k0_pay30, k0_pay28, k0_pay13]
  simp only [pay12_at h2, pay25_at h1 h2, pay27_at h1 h2, pay29_at h1 h2, pay31_at h1 h2, pay35_at h1 h2]
  rw [pick h1 h2 i2 t]
  have ht := t.isLt
  have key : ∀ z : EReal, z = ((cnt i1 (i2 t) 2048 + cnt i2 (i2 t) t.val : ℕ) : EReal) →
      z + ((256 * start i1 i2 (i2 t) : ℕ) : EReal) = ((p1 i1 i2 t : ℕ) : EReal) := by
    rintro z rfl
    rw [← Nat.cast_add, p1, add_comm]
  apply key
  by_cases k1 : t.val < 512
  · rw [dif_pos k1]
  rw [dif_neg k1]
  by_cases k2 : t.val - 512 < 512
  · rw [dif_pos k2, block_sum i2 (i2 t) _ 512 _ k2]
    congr 3
    omega
  rw [dif_neg k2]
  by_cases k3 : t.val - 512 - 512 < 512
  · rw [dif_pos k3, block_sum i2 (i2 t) _ 1024 _ k3]
    congr 3
    omega
  rw [dif_neg k3, block_sum i2 (i2 t) _ 1536 (t.val - 512 - 512 - 512) (by omega)]
  congr 3
  omega

/-- The place of a token's second choice, as a word. -/
theorem pay38_at (t : Fin 2048) :
    k0_pay38 (k0_pay36 (F := Ideal) (k0_pay12 s2) k0_pay13 (k0_pay22 s1) (k0_pay25 s1 s2) (k0_pay26 s2)) (ix2 t 0)
      = BitVec.ofNat 32 (p1 i1 i2 t) := by
  pointwise [k0_pay38]
  rw [pay36_at h1 h2]
  exact fptosi_nat (by have := at_lt (at_p1 i1 i2 t); omega)

/-- The place of a token's first choice, as a word. -/
theorem pay37_at (t : Fin 2048) :
    k0_pay37 (F := Ideal) (k0_pay11 s1) (k0_pay12 s2) (k0_pay22 s1) (k0_pay23 s1) (k0_pay26 s2) (ix2 t 0)
      = BitVec.ofNat 32 (p0 i1 i2 t) := by
  pointwise [k0_pay37]
  simp only [pay11_at h1, pay23_at h1, pay35_at h1 h2]
  rw [pick h1 h2 i1 t, ← Nat.cast_add, add_comm]
  exact fptosi_nat (by have := at_lt (at_p0 i1 i2 t); unfold p0 at this; omega)

/-- The number of tiles in use, as a word. -/
theorem pay40_at : k0_pay40 (k0_pay34 (F := Ideal) (k0_pay12 s2) (k0_pay22 s1) (k0_pay26 s2)) (ix2 0 0)
    = BitVec.ofNat 32 (used i1 i2) := by
  pointwise [k0_pay40]
  simp only [pay34_at h1 h2, ofBits_256]
  rw [sum_nat, ← Finset.mul_sum, div_256_mul]
  exact fptosi_nat (by have := used_le i1 i2; unfold used at this; omega)

/-- A grid point below the number of tiles in use works on the tile of its own number. -/
theorem pay41_at (n : Fin 32) (hn : n.val < used i1 i2) :
    k0_pay41 (k0_pay34 (F := Ideal) (k0_pay12 s2) (k0_pay22 s1) (k0_pay26 s2)) (ix2 0 n) = BitVec.ofNat 32 n.val := by
  have hu := used_le i1 i2
  pointwise [k0_pay41]
  rw [pay40_at h1 h2]
  have : IntOp.subi (BitVec.ofNat 32 (used i1 i2)) 1#32 = BitVec.ofNat 32 (used i1 i2 - 1) := by
    apply BitVec.eq_of_toNat_eq
    show (BitVec.ofNat 32 (used i1 i2) - 1#32).toNat = _
    rw [BitVec.toNat_sub, BitVec.toNat_ofNat, BitVec.toNat_ofNat, BitVec.toNat_ofNat]
    omega
  rw [this, minsi_nat (by omega) (by omega)]
  congr 1
  omega

/-- The expert of a tile that holds a place of expert `e`. -/
theorem pay39_at (n : Fin 32) {p a : ℕ} {e : Fin 8} (hp : At i1 i2 p e a) (hn : n.val = p / 256) :
    k0_pay39 (k0_pay33 (F := Ideal) (k0_pay12 s2) (k0_pay22 s1) (k0_pay26 s2))
      (k0_pay34 (F := Ideal) (k0_pay12 s2) (k0_pay22 s1) (k0_pay26 s2))
      (iota .tc S8x8 32 [0] iota_S8x8_d0_w32) (iota .tc S8x8 32 [1] iota_S8x8_d1_w32)
      (k0_pay35 (F := Ideal) (k0_pay12 s2) (k0_pay22 s1) (k0_pay26 s2)) (ix2 0 n) = BitVec.ofNat 32 e.val := by
  pointwise [k0_pay39]
  simp only [pay33_at h1 h2, pay34_at h1 h2, pay35_at h1 h2, ofBits_256]
  have hend : ∀ k : Fin 8, ∑ x : Fin 8, Ideal.div (((256 * start i1 i2 x : ℕ) : EReal) + ((256 * tiles i1 i2 x : ℕ) : EReal)) ((256 : ℝ) : EReal)
      * FloatOps.sitofp (F := Ideal) FTy.f32 (BitVec.setWidth 32 (IntOp.cmpi .eq (BitVec.ofNat 32 k.val) (BitVec.ofNat 32 x.val)))
      = ((start i1 i2 k + tiles i1 i2 k : ℕ) : EReal) := fun k => by
    rw [Finset.sum_eq_single k]
    · rw [cmpi_eq (by omega) (by omega), bit_val, if_pos rfl, mul_one, ← Nat.cast_add, ← Nat.mul_add, div_256_mul]
    · intro x _ hx
      rw [cmpi_eq (by omega) (by omega), bit_val, if_neg (fun h => hx (Fin.ext h.symm)), mul_zero]
    · intro h
      exact absurd (Finset.mem_univ _) h
  simp only [hend]
  rw [word_val (by omega)]
  simp only [Nat.cast_le, pos_nat]
  rw [IndicatorCount.fold_addi_setWidth_eq_card]
  have hc : (Finset.univ.filter fun k : Fin 8 => BitVec.ofBool (decide (start i1 i2 k + tiles i1 i2 k ≤ n.val)) = 1#1).card = e.val := by
    rw [← at_count hp, hn]
    congr 1
    ext k
    by_cases hk : start i1 i2 k + tiles i1 i2 k ≤ p / 256 <;> simp [hk]
  rw [hc]
  have := min_last (fun k => decide (0 < load i1 i2 k)) e (decide_eq_true (at_load hp))
  simp only [decide_eq_true_eq] at this
  convert this

end Both

end Cert.Proof.Router

end
-- ==== Proof.FfnValue.lean ====
/-
  One grid point of the second call at the ideal instance. The mask gathers the token that stands at each place of the
  tile, the expert's layers are applied to it, and the gates scatter the rows back to the tokens; the points together
  add, to every token, its two gated layers.
-/
module

public import proofs.«01_k».proof.Proof.Ffn
public import proofs.«01_k».proof.Proof.Numbers
public import proofs.«01_k».proof.Proof.Spec

@[expose] public section

set_option maxRecDepth 16384

noncomputable section

namespace Cert.Proof.Ffn

open Cert.KernelIdeal Cert.KernelIdeal.Gen
open Idealize.ShloMosaic Cert.Proof.Numbers Cert.Proof.Spec

/-- The place that row `r` of tile `n` holds, as a word. -/
theorem place_word (r n : ℕ) (hr : r < 256) (hn : n < 32) :
    IntOp.addi (BitVec.ofNat 32 r) (Scalar.muli (BitVec.ofNat 32 n) 256#32) = BitVec.ofNat 32 (r + 256 * n) := by
  apply BitVec.eq_of_toNat_eq
  show (BitVec.ofNat 32 r + BitVec.ofNat 32 n * 256#32).toNat = _
  rw [BitVec.toNat_add, BitVec.toNat_mul, BitVec.toNat_ofNat, BitVec.toNat_ofNat, BitVec.toNat_ofNat, BitVec.toNat_ofNat]
  omega

theorem ori_bool (a b : Bool) : IntOp.ori (BitVec.ofBool a) (BitVec.ofBool b) = BitVec.ofBool (a || b) := by
  cases a <;> cases b <;> rfl

/-- A row of a tile: the token that stands there, through the expert's layers. -/
theorem tile_at {row : BitVec 32} {n : ℕ} (hrow : row = BitVec.ofNat 32 n) (hn : n < 32)
    (p0 p1 : Vec Ideal S1x2048 .i32) (x : Vec Ideal S2048x768 .f32) (w1 : Vec Ideal S1x768x3072 .f32)
    (b1 : Vec Ideal S1x1x3072 .f32) (w2 : Vec Ideal S1x3072x768 .f32) (b2 : Vec Ideal S1x1x768 .f32)
    {P0 P1 : Fin 2048 → ℕ} (hp0 : ∀ t, p0 (ix2 0 t) = BitVec.ofNat 32 (P0 t)) (hp1 : ∀ t, p1 (ix2 0 t) = BitVec.ofNat 32 (P1 t))
    (l0 : ∀ t, P0 t < 2 ^ 31) (l1 : ∀ t, P1 t < 2 ^ 31) (r : Fin 256) (d : Fin 768) (t : Fin 2048)
    (hu : ∀ s, (P0 s = r.val + 256 * n ∨ P1 s = r.val + 256 * n) ↔ s = t) :
    tile row p0 p1 x w1 b1 w2 b2 (ix2 r d)
      = layer (fun j k => w1 (ix3 0 j k)) (fun k => b1 (ix3 0 0 k)) (fun k d => w2 (ix3 0 k d)) (fun d => b2 (ix3 0 0 d))
          (fun j => x (ix2 t j)) d := by
  subst hrow
  pointwise [tile, k1_pay3]
  unfold layer
  have hg : ∀ j : Fin 768, ∑ s : Fin 2048, FloatOps.sitofp (F := Ideal) FTy.f32 (BitVec.setWidth 32
      (IntOp.ori (IntOp.cmpi .eq (p0 (ix2 0 s)) (IntOp.addi (BitVec.ofNat 32 r.val) (Scalar.muli (BitVec.ofNat 32 n) 256#32)))
        (IntOp.cmpi .eq (p1 (ix2 0 s)) (IntOp.addi (BitVec.ofNat 32 r.val) (Scalar.muli (BitVec.ofNat 32 n) 256#32)))))
      * x (ix2 s j) = x (ix2 t j) := fun j => by
    have hm : ∀ s : Fin 2048, FloatOps.sitofp (F := Ideal) FTy.f32 (BitVec.setWidth 32
        (IntOp.ori (IntOp.cmpi .eq (p0 (ix2 0 s)) (IntOp.addi (BitVec.ofNat 32 r.val) (Scalar.muli (BitVec.ofNat 32 n) 256#32)))
          (IntOp.cmpi .eq (p1 (ix2 0 s)) (IntOp.addi (BitVec.ofNat 32 r.val) (Scalar.muli (BitVec.ofNat 32 n) 256#32)))))
        = if s = t then (1 : EReal) else 0 := fun s => by
      rw [place_word r.val n r.isLt hn, hp0, hp1, cmpi_eq (l0 s) (by omega), cmpi_eq (l1 s) (by omega), ori_bool,
        ← Bool.decide_or, bit_val]
      by_cases h : s = t
      · rw [if_pos h, if_pos ((hu s).mpr h)]
      · rw [if_neg h, if_neg (fun k => h ((hu s).mp k))]
    rw [Finset.sum_eq_single t]
    · rw [hm, if_pos rfl, one_mul]
    · intro s _ hs
      rw [hm, if_neg hs, zero_mul]
    · intro h
      exact absurd (Finset.mem_univ _) h
  simp only [hg]

/-- A sum over a tile's rows that only one place is met in. -/
theorem sum_place (P n : ℕ) (g : Fin 256 → EReal) :
    ∑ r : Fin 256, (if P = r.val + 256 * n then g r else 0) = if P / 256 = n then g ⟨P % 256, Nat.mod_lt _ (by decide)⟩ else 0 := by
  by_cases h : P / 256 = n
  · rw [if_pos h, Finset.sum_eq_single ⟨P % 256, Nat.mod_lt _ (by decide)⟩]
    · rw [if_pos]
      show P = P % 256 + 256 * n
      omega
    · intro r _ hr
      refine if_neg fun hP => hr (Fin.ext ?_)
      show r.val = P % 256
      omega
    · intro h
      exact absurd (Finset.mem_univ _) h
  · rw [if_neg h]
    refine Finset.sum_eq_zero fun r _ => if_neg fun hP => h ?_
    omega

/-- What a tile adds to a token: for each of its two places that lies in the tile, the gate times that row. -/
theorem scattered_at {row : BitVec 32} {n : ℕ} (hrow : row = BitVec.ofNat 32 n) (hn : n < 32)
    (y : FVec Ideal S256x768 .f32) (q0 q1 : Vec Ideal S2048x1 .i32) (g0 g1 : Vec Ideal S2048x1 .f32) (t : Fin 2048) (d : Fin 768)
    {P Q : ℕ} (hq0 : q0 (ix2 t 0) = BitVec.ofNat 32 P) (hq1 : q1 (ix2 t 0) = BitVec.ofNat 32 Q) (hP : P < 2 ^ 31) (hQ : Q < 2 ^ 31)
    (hne : P ≠ Q) :
    scattered row y q0 q1 g0 g1 (ix2 t d)
      = (if P / 256 = n then g0 (ix2 t 0) * y (ix2 ⟨P % 256, Nat.mod_lt _ (by decide)⟩ d) else 0)
        + (if Q / 256 = n then g1 (ix2 t 0) * y (ix2 ⟨Q % 256, Nat.mod_lt _ (by decide)⟩ d) else 0) := by
  subst hrow
  pointwise [scattered, k1_pay1]
  have hr : ∀ r : Fin 256,
      (Scalar.select (IntOp.cmpi .eq (q0 (ix2 t 0)) (IntOp.addi (BitVec.ofNat 32 r.val) (Scalar.muli (BitVec.ofNat 32 n) 256#32))) (g0 (ix2 t 0)) (0 : EReal)
        + Scalar.select (IntOp.cmpi .eq (q1 (ix2 t 0)) (IntOp.addi (BitVec.ofNat 32 r.val) (Scalar.muli (BitVec.ofNat 32 n) 256#32))) (g1 (ix2 t 0)) (0 : EReal))
        * y (ix2 r d)
      = (if P = r.val + 256 * n then g0 (ix2 t 0) * y (ix2 r d) else 0) + (if Q = r.val + 256 * n then g1 (ix2 t 0) * y (ix2 r d) else 0) := fun r => by
    rw [place_word r.val n r.isLt hn, hq0, hq1, cmpi_eq hP (by omega), cmpi_eq hQ (by omega)]
    unfold Scalar.select
    by_cases h0 : P = r.val + 256 * n
    · have h1 : ¬ Q = r.val + 256 * n := fun h => hne (h0.trans h.symm)
      simp only [h0, h1, decide_true, decide_false, if_true, if_false, add_zero]
      simp
    · by_cases h1 : Q = r.val + 256 * n
      · simp only [h0, h1, decide_true, decide_false, if_true, if_false, zero_add]
        simp
      · simp only [h0, h1, decide_false, if_false, add_zero]
        simp
  refine (Finset.sum_congr rfl fun r _ => hr r).trans ?_
  rw [Finset.sum_add_distrib, sum_place, sum_place]

/-- Whether a grid point works: it stands below the number of tiles in use. -/
theorem cond1_eq (i : grid1.Coords) {u : ℕ} (hu : u ≤ 23) : k1_cond1 i (BitVec.ofNat 32 u) = BitVec.ofBool (decide ((i 0).val < u)) := by
  have h : k1_cond1 i (BitVec.ofNat 32 u)
      = IntOp.cmpi .ne (BitVec.setWidth 32 (IntOp.cmpi .slt (BitVec.ofNat 32 (i 0).val) (BitVec.ofNat 32 u))) 0#32 := rfl
  have hi : (i 0).val < 24 := (i 0).isLt
  rw [h, cmpi_slt (by omega) (by omega)]
  generalize decide ((i 0).val < u) = b
  cases b <;> rfl

theorem coords_val : ∀ n : Fin grid1.N, (grid1.coords n 0).val = n.val := by decide +kernel

end Cert.Proof.Ffn

end
-- ==== Proof.FfnBlocks.lean ====
/-
  The blocks the second call's windows bring, read at one index: the tokens, the places and the gates whole, and of
  the weights and biases the expert the table names at the grid point.
-/
module

public import proofs.«01_k».proof.Proof.FfnRegion
public import Idealize.ShloMosaic.Lib.Pointwise

@[expose] public section

set_option maxRecDepth 16384

noncomputable section

namespace Cert.Proof.Ffn

open Cert.KernelIdeal Cert.KernelIdeal.Gen
open Idealize.ShloMosaic Idealize.ShloMosaic.TcCoe

variable {F : FTy → Type} [FloatOps F]
variable (V : (c : Dev nD) → Valuation τ sig (Elt F)) (a : (pcfg1 (F := F)).Adm)

theorem block0 (c : Dev nD) (t : Fin grid1.N) (i : Fin 2048) (j : Fin 768) :
    blockAt V a c 0 t (ix2 i j) = V c main_v0 (ix2 i j) := by
  show V c main_v0 _ = V c main_v0 _
  congr 1
  funext ax
  apply Fin.ext
  fin_cases ax
  · show 0 * 2048 + 1 * i.val = i.val
    omega
  · show 0 * 768 + 1 * j.val = j.val
    omega

theorem block1 (c : Dev nD) (t : Fin grid1.N) (i : Fin 2048) :
    blockAt V a c 1 t (ix2 0 i) = V c main_v8 (ix2 0 i) := by
  show V c main_v8 _ = V c main_v8 _
  congr 1
  funext ax
  apply Fin.ext
  fin_cases ax
  · show 0 * 1 + 1 * 0 = 0
    omega
  · show 0 * 2048 + 1 * i.val = i.val
    omega

theorem block2 (c : Dev nD) (t : Fin grid1.N) (i : Fin 2048) :
    blockAt V a c 2 t (ix2 0 i) = V c main_v9 (ix2 0 i) := by
  show V c main_v9 _ = V c main_v9 _
  congr 1
  funext ax
  apply Fin.ext
  fin_cases ax
  · show 0 * 1 + 1 * 0 = 0
    omega
  · show 0 * 2048 + 1 * i.val = i.val
    omega

theorem block3 (c : Dev nD) (t : Fin grid1.N) (i : Fin 2048) :
    blockAt V a c 3 t (ix2 i 0) = V c main_v4_0 (ix2 i 0) := by
  show V c main_v4_0 _ = V c main_v4_0 _
  congr 1
  funext ax
  apply Fin.ext
  fin_cases ax
  · show 0 * 2048 + 1 * i.val = i.val
    omega
  · show 0 * 1 + 1 * 0 = 0
    omega

theorem block4 (c : Dev nD) (t : Fin grid1.N) (i : Fin 2048) :
    blockAt V a c 4 t (ix2 i 0) = V c main_v4_1 (ix2 i 0) := by
  show V c main_v4_1 _ = V c main_v4_1 _
  congr 1
  funext ax
  apply Fin.ext
  fin_cases ax
  · show 0 * 2048 + 1 * i.val = i.val
    omega
  · show 0 * 1 + 1 * 0 = 0
    omega

theorem block5 (c : Dev nD) (t : Fin grid1.N) (i : Fin 2048) :
    blockAt V a c 5 t (ix2 i 0) = V c main_v4_2 (ix2 i 0) := by
  show V c main_v4_2 _ = V c main_v4_2 _
  congr 1
  funext ax
  apply Fin.ext
  fin_cases ax
  · show 0 * 2048 + 1 * i.val = i.val
    omega
  · show 0 * 1 + 1 * 0 = 0
    omega

theorem block6 (c : Dev nD) (t : Fin grid1.N) (i : Fin 2048) :
    blockAt V a c 6 t (ix2 i 0) = V c main_v4_3 (ix2 i 0) := by
  show V c main_v4_3 _ = V c main_v4_3 _
  congr 1
  funext ax
  apply Fin.ext
  fin_cases ax
  · show 0 * 2048 + 1 * i.val = i.val
    omega
  · show 0 * 1 + 1 * 0 = 0
    omega

/-- The word an index map reads from the first table. -/
theorem table_entry (i : grid1.Coords) :
    a.1.at 0 (Rect.unit (s := S32) ![(Scalar.indexCast (BitVec.ofNat 32 (i 0).val)).toNat] S1.size (k1_off1_inb i)) numel1_S1
      = entry (F := F) (a.1 0) i := by
  have h : (Scalar.indexCast (BitVec.ofNat 32 (i 0).val)).toNat = (i 0).val := off2_val i
  show a.1 0 _ = a.1 0 _
  refine congrArg (a.1 0) ?_
  funext ax
  apply Fin.ext
  fin_cases ax
  show (Scalar.indexCast (BitVec.ofNat 32 (i 0).val)).toNat + 1 * 0 = (i 0).val
  omega

theorem entry_nat (t : Fin grid1.N) (e : Fin 8) (he : entry (F := F) (a.1 0) (grid1.coords t) = BitVec.ofNat 32 e.val) :
    (entry (F := F) (a.1 0) (grid1.coords t)).toNat = e.val := by
  rw [he, BitVec.toNat_ofNat]
  omega

theorem block7 (c : Dev nD) (t : Fin grid1.N) (e : Fin 8) (he : entry (F := F) (a.1 0) (grid1.coords t) = BitVec.ofNat 32 e.val)
    (i : Fin 768) (j : Fin 3072) : blockAt V a c 7 t (ix3 0 i j) = V c main_arg3 (ix3 e i j) := by
  have hv := entry_nat a t e he
  rw [← table_entry] at hv
  show V c main_arg3 _ = V c main_arg3 _
  congr 1
  funext ax
  apply Fin.ext
  fin_cases ax
  · show _ * 1 + 1 * 0 = e.val
    rw [Nat.mul_one]
    exact hv
  · show 0 * 768 + 1 * i.val = i.val
    omega
  · show 0 * 3072 + 1 * j.val = j.val
    omega

theorem block8 (c : Dev nD) (t : Fin grid1.N) (e : Fin 8) (he : entry (F := F) (a.1 0) (grid1.coords t) = BitVec.ofNat 32 e.val)
    (j : Fin 3072) : blockAt V a c 8 t (ix3 0 0 j) = V c main_v2 (ix3 e 0 j) := by
  have hv := entry_nat a t e he
  rw [← table_entry] at hv
  show V c main_v2 _ = V c main_v2 _
  congr 1
  funext ax
  apply Fin.ext
  fin_cases ax
  · show _ * 1 + 1 * 0 = e.val
    rw [Nat.mul_one]
    exact hv
  · show 0 * 1 + 1 * 0 = 0
    omega
  · show 0 * 3072 + 1 * j.val = j.val
    omega

theorem block9 (c : Dev nD) (t : Fin grid1.N) (e : Fin 8) (he : entry (F := F) (a.1 0) (grid1.coords t) = BitVec.ofNat 32 e.val)
    (i : Fin 3072) (j : Fin 768) : blockAt V a c 9 t (ix3 0 i j) = V c main_arg5 (ix3 e i j) := by
  have hv := entry_nat a t e he
  rw [← table_entry] at hv
  show V c main_arg5 _ = V c main_arg5 _
  congr 1
  funext ax
  apply Fin.ext
  fin_cases ax
  · show _ * 1 + 1 * 0 = e.val
    rw [Nat.mul_one]
    exact hv
  · show 0 * 3072 + 1 * i.val = i.val
    omega
  · show 0 * 768 + 1 * j.val = j.val
    omega

theorem block10 (c : Dev nD) (t : Fin grid1.N) (e : Fin 8) (he : entry (F := F) (a.1 0) (grid1.coords t) = BitVec.ofNat 32 e.val)
    (j : Fin 768) : blockAt V a c 10 t (ix3 0 0 j) = V c main_v3 (ix3 e 0 j) := by
  have hv := entry_nat a t e he
  rw [← table_entry] at hv
  show V c main_v3 _ = V c main_v3 _
  congr 1
  funext ax
  apply Fin.ext
  fin_cases ax
  · show _ * 1 + 1 * 0 = e.val
    rw [Nat.mul_one]
    exact hv
  · show 0 * 1 + 1 * 0 = 0
    omega
  · show 0 * 768 + 1 * j.val = j.val
    omega

end Cert.Proof.Ffn

end
-- ==== Proof.KernelValue.lean ====
/-
  What the kernel computes. A grid point in use adds, for each token, the gated layer of every choice whose place lies
  in its tile; after the last point the output's buffer holds, for each token, both choices' gated layers.
-/
module

public import proofs.«01_k».proof.Proof.Entered
public import proofs.«01_k».proof.Proof.RouterCount
public import proofs.«01_k».proof.Proof.FfnValue
public import proofs.«01_k».proof.Proof.FfnBlocks
public import proofs.«01_k».proof.Proof.FfnExit

@[expose] public section

set_option maxRecDepth 16384

noncomputable section

namespace Cert.Proof.Launch

open Cert.KernelIdeal Cert.KernelIdeal.Gen
open Idealize.ShloMosaic Idealize.ShloMosaic.TcCoe
open Cert.Proof.Choice Cert.Proof.Places Cert.Proof.Ffn

variable (m : (ℓ : Loc nD τ sig) → Buf (Elt Ideal) ℓ) (c : Dev nD)

/-- The logits, as the router computes them. -/
abbrev lgs (t : Fin 2048) : Fin 8 → EReal := Router.lg (X m c) (G m c) (B m c) t
/-- Each token's two choices. -/
def ch0 (t : Fin 2048) : Fin 8 := first (lgs m c t)
def ch1 (t : Fin 2048) : Fin 8 := second (lgs m c t)
/-- The two choices' places. -/
def pl0 (t : Fin 2048) : ℕ := p0 (ch0 m c) (ch1 m c) t
def pl1 (t : Fin 2048) : ℕ := p1 (ch0 m c) (ch1 m c) t

theorem sel1_at (t : Fin 2048) (e : Fin 8) : Router.sel1 (X m c) (G m c) (B m c) (ix2 t e) = BitVec.ofBool (decide (e = ch0 m c t)) :=
  Router.pay3_at _ _ _ t e
theorem sel2_at (t : Fin 2048) (e : Fin 8) : Router.sel2 (X m c) (G m c) (B m c) (ix2 t e) = BitVec.ofBool (decide (e = ch1 m c t)) :=
  Router.pay6_at _ _ _ t e

theorem pos0_at (t : Fin 2048) : Router.pos0 (X m c) (G m c) (B m c) (ix2 t 0) = BitVec.ofNat 32 (pl0 m c t) :=
  Router.pay37_at (sel1_at m c) (sel2_at m c) t
theorem pos1_at (t : Fin 2048) : Router.pos1 (X m c) (G m c) (B m c) (ix2 t 0) = BitVec.ofNat 32 (pl1 m c t) :=
  Router.pay38_at (sel1_at m c) (sel2_at m c) t

theorem lt0 (t : Fin 2048) : pl0 m c t < 5888 := at_lt (at_p0 _ _ t)
theorem lt1 (t : Fin 2048) : pl1 m c t < 5888 := at_lt (at_p1 _ _ t)

abbrev inUse : ℕ := Places.used (ch0 m c) (ch1 m c)

theorem inUse_le : inUse m c ≤ 23 := used_le _ _
theorem inUse_pos : 0 < inUse m c := used_pos _ _

theorem used_word : Ffn.word (F := Ideal) (Ffn.used (adm1 m)) = BitVec.ofNat 32 (inUse m c) :=
  (table2 m c).trans (Router.pay40_at (sel1_at m c) (sel2_at m c))

theorem row_word (n : ℕ) (h : n < grid1.N) (hn : n < inUse m c) :
    Ffn.entry (F := Ideal) (Ffn.rows (adm1 m)) (grid1.coords ⟨n, h⟩) = BitVec.ofNat 32 n := by
  have h32 : n < 32 := by have := inUse_le m c; omega
  exact (table1 m c _ ⟨n, h32⟩ (coords_val ⟨n, h⟩)).trans (Router.pay41_at (sel1_at m c) (sel2_at m c) ⟨n, h32⟩ hn)

theorem expert_word (n : ℕ) (h : n < grid1.N) {p a : ℕ} {e : Fin 8} (hp : At (ch0 m c) (ch1 m c) p e a) (hn : n = p / 256) :
    Ffn.entry (F := Ideal) ((adm1 m).1 0) (grid1.coords ⟨n, h⟩) = BitVec.ofNat 32 e.val := by
  have h32 : n < 32 := by have := inUse_le m c; have u : p / 256 < inUse m c := at_used hp; omega
  exact (table0 m c _ ⟨n, h32⟩ (coords_val ⟨n, h⟩)).trans (Router.pay39_at (sel1_at m c) (sel2_at m c) ⟨n, h32⟩ hp hn)

/-- Expert `e` at token `t`. -/
abbrev lay (e : Fin 8) (t : Fin 2048) (d : Fin 768) : EReal := Spec.expert (aX m c) (aW1 m c) (aB1 m c) (aW2 m c) (aB2 m c) e t d

/-- A row of a tile whose place is a choice of token `t`: that choice's expert at `t`. -/
theorem tile_row (n : ℕ) (h : n < grid1.N) {p a : ℕ} {e : Fin 8} (hp : At (ch0 m c) (ch1 m c) p e a) (hn : n = p / 256)
    (t : Fin 2048) (hu : ∀ s, (pl0 m c s = p ∨ pl1 m c s = p) ↔ s = t) (r : Fin 256) (hr : r.val = p % 256) (d : Fin 768) :
    Ffn.tile (F := Ideal) (Ffn.entry (Ffn.rows (adm1 m)) (grid1.coords ⟨n, h⟩)) (Ffn.blockAt (entered m) (adm1 m) c 1 ⟨n, h⟩)
      (Ffn.blockAt (entered m) (adm1 m) c 2 ⟨n, h⟩) (Ffn.blockAt (entered m) (adm1 m) c 0 ⟨n, h⟩)
      (Ffn.blockAt (entered m) (adm1 m) c 7 ⟨n, h⟩) (Ffn.blockAt (entered m) (adm1 m) c 8 ⟨n, h⟩)
      (Ffn.blockAt (entered m) (adm1 m) c 9 ⟨n, h⟩) (Ffn.blockAt (entered m) (adm1 m) c 10 ⟨n, h⟩) (ix2 r d) = lay m c e t d := by
  have hin : n < inUse m c := hn ▸ at_used hp
  have h32 : n < 32 := by have := inUse_le m c; omega
  have he := expert_word m c n h hp hn
  have hpl : r.val + 256 * n = p := by omega
  rw [Ffn.tile_at (row_word m c n h hin) h32 _ _ _ _ _ _ _ (P0 := pl0 m c) (P1 := pl1 m c)
    (fun s => (block1 (entered m) (adm1 m) c ⟨n, h⟩ s).trans ((ent_p0 m c s).trans (pos0_at m c s)))
    (fun s => (block2 (entered m) (adm1 m) c ⟨n, h⟩ s).trans ((ent_p1 m c s).trans (pos1_at m c s)))
    (fun s => (lt0 m c s).trans (by decide)) (fun s => (lt1 m c s).trans (by decide)) r d t (by rw [hpl]; exact hu)]
  unfold lay Spec.expert
  have e1 : (fun (j : Fin 768) (k : Fin 3072) => Ffn.blockAt (entered m) (adm1 m) c 7 ⟨n, h⟩ (ix3 0 j k)) = fun j k => aW1 m c (ix3 e j k) := by
    funext j k; exact (block7 (entered m) (adm1 m) c ⟨n, h⟩ e he j k).trans (congrFun (ent_w1 m c) _)
  have e2 : (fun (k : Fin 3072) => Ffn.blockAt (entered m) (adm1 m) c 8 ⟨n, h⟩ (ix3 0 0 k)) = fun k => aB1 m c (ix2 e k) := by
    funext k; exact (block8 (entered m) (adm1 m) c ⟨n, h⟩ e he k).trans (ent_b1 m c e k)
  have e3 : (fun (k : Fin 3072) (d : Fin 768) => Ffn.blockAt (entered m) (adm1 m) c 9 ⟨n, h⟩ (ix3 0 k d)) = fun k d => aW2 m c (ix3 e k d) := by
    funext k d; exact (block9 (entered m) (adm1 m) c ⟨n, h⟩ e he k d).trans (congrFun (ent_w2 m c) _)
  have e4 : (fun (d : Fin 768) => Ffn.blockAt (entered m) (adm1 m) c 10 ⟨n, h⟩ (ix3 0 0 d)) = fun d => aB2 m c (ix2 e d) := by
    funext d; exact (block10 (entered m) (adm1 m) c ⟨n, h⟩ e he d).trans (ent_b2 m c e d)
  have e5 : (fun (j : Fin 768) => Ffn.blockAt (entered m) (adm1 m) c 0 ⟨n, h⟩ (ix2 t j)) = fun j => aX m c (ix3 0 t j) := by
    funext j; exact (block0 (entered m) (adm1 m) c ⟨n, h⟩ t j).trans (ent_x m c t j)
  exact congr (congr (congr (congr (congr (congr rfl e1) e2) e3) e4) e5) rfl

/-- The two choices' gated layers at token `t`. -/
def part0 (t : Fin 2048) (d : Fin 768) : EReal := Spec.gate0 (lgs m c t) * lay m c (ch0 m c t) t d
def part1 (t : Fin 2048) (d : Fin 768) : EReal := Spec.gate1 (lgs m c t) * lay m c (ch1 m c t) t d

variable (hf : ∀ t e, lgs m c t e ≠ ⊥)
include hf

/-- What a grid point in use contributes at a token. -/
theorem contrib_at (n : ℕ) (h : n < grid1.N) (hn : n < inUse m c) (t : Fin 2048) (d : Fin 768) :
    Ffn.contrib (entered m) (adm1 m) c ⟨n, h⟩ (ix2 t d)
      = (if pl0 m c t / 256 = n then part0 m c t d else 0) + (if pl1 m c t / 256 = n then part1 m c t d else 0) := by
  have h32 : n < 32 := by have := inUse_le m c; omega
  unfold Ffn.contrib
  rw [Ffn.scattered_at (row_word m c n h hn) h32 _ _ _ _ _ t d
    ((block3 (entered m) (adm1 m) c ⟨n, h⟩ t).trans ((congrFun (ent_q0 m c) _).trans (pos0_at m c t)))
    ((block4 (entered m) (adm1 m) c ⟨n, h⟩ t).trans ((congrFun (ent_q1 m c) _).trans (pos1_at m c t)))
    ((lt0 m c t).trans (by decide)) ((lt1 m c t).trans (by decide)) (p0_ne_p1 _ _ t t)]
  have g0 : Ffn.blockAt (entered m) (adm1 m) c 5 ⟨n, h⟩ (ix2 t 0) = Spec.gate0 (lgs m c t) :=
    (block5 (entered m) (adm1 m) c ⟨n, h⟩ t).trans ((congrFun (ent_g0 m c) _).trans (Router.gate0_at (hf t)))
  have g1 : Ffn.blockAt (entered m) (adm1 m) c 6 ⟨n, h⟩ (ix2 t 0) = Spec.gate1 (lgs m c t) :=
    (block6 (entered m) (adm1 m) c ⟨n, h⟩ t).trans ((congrFun (ent_g1 m c) _).trans (Router.gate1_at (hf t)))
  rw [g0, g1]
  refine congrArg₂ (· + ·) ?_ ?_
  · by_cases k : pl0 m c t / 256 = n
    · rw [if_pos k, if_pos k]
      refine congrArg _ (tile_row m c n h (at_p0 _ _ t) k.symm t (fun s => ⟨?_, fun e => Or.inl (by rw [e]; rfl)⟩) _ rfl d)
      rintro (e | e)
      · exact p0_inj _ _ e
      · exact absurd e.symm (p0_ne_p1 _ _ t s)
    · rw [if_neg k, if_neg k]
  · by_cases k : pl1 m c t / 256 = n
    · rw [if_pos k, if_pos k]
      refine congrArg _ (tile_row m c n h (at_p1 _ _ t) k.symm t (fun s => ⟨?_, fun e => Or.inr (by rw [e]; rfl)⟩) _ rfl d)
      rintro (e | e)
      · exact absurd e (p0_ne_p1 _ _ s t)
      · exact p1_inj _ _ e
    · rw [if_neg k, if_neg k]

/-- A sum over the tiles so far, one tile further. -/
theorem upto (q n : ℕ) (v : EReal) :
    (if q = n + 1 then v else 0) + (if q ≤ n then v else 0) = if q ≤ n + 1 then v else 0 := by
  rcases lt_trichotomy q (n + 1) with l | l | l
  · rw [if_neg (by omega), if_pos (by omega), if_pos (by omega), zero_add]
  · rw [if_pos l, if_neg (by omega), if_pos (by omega), add_zero]
  · rw [if_neg (by omega), if_neg (by omega), if_neg (by omega), zero_add]

/-- The output's buffer after point `n`. -/
theorem acc_at (z) (t : Fin 2048) (d : Fin 768) : ∀ (n : ℕ) (h : n < grid1.N),
    Ffn.acc (entered m) (adm1 m) c z n h (ix2 t d)
      = (if pl0 m c t / 256 ≤ n then part0 m c t d else 0) + (if pl1 m c t / 256 ≤ n then part1 m c t d else 0)
  | 0, h => by
    unfold Ffn.acc Ffn.stepped
    rw [used_word m c, Ffn.cond1_eq _ (used_le _ _), coords_val, if_pos (by rw [decide_eq_true (inUse_pos m c)]; rfl), if_pos rfl,
      contrib_at m c hf 0 h (inUse_pos m c)]
    simp only [Nat.le_zero]
  | n + 1, h => by
    unfold Ffn.acc Ffn.stepped
    rw [used_word m c, Ffn.cond1_eq _ (used_le _ _), coords_val]
    by_cases k : n + 1 < inUse m c
    · rw [if_pos (by rw [decide_eq_true k]; rfl), if_neg (Nat.succ_ne_zero n)]
      have key : addf (F := Ideal) (φ := .f32) (shapeCast S2048x768 (Ffn.acc (entered m) (adm1 m) c z n (Nat.lt_of_succ_lt h)) shapeCasts_S2048x768_S2048x768)
          (Ffn.contrib (entered m) (adm1 m) c ⟨n + 1, h⟩) (ix2 t d)
          = Ffn.acc (entered m) (adm1 m) c z n (Nat.lt_of_succ_lt h) (ix2 t d) + Ffn.contrib (entered m) (adm1 m) c ⟨n + 1, h⟩ (ix2 t d) := by
        pointwise
      rw [key, acc_at z t d n, contrib_at m c hf (n + 1) h k, ← upto m c hf _ n (part0 m c t d), ← upto m c hf _ n (part1 m c t d)]
      ac_rfl
    · rw [if_neg (by rw [decide_eq_false k]; decide), acc_at z t d n]
      have a0 : pl0 m c t / 256 < inUse m c := at_used (at_p0 _ _ t)
      have a1 : pl1 m c t / 256 < inUse m c := at_used (at_p1 _ _ t)
      rw [if_pos (by omega), if_pos (by omega), if_pos (by omega), if_pos (by omega)]

/-- The output's buffer at the end is the specification. -/
theorem acc_last (z) (t : Fin 2048) (d : Fin 768) : Ffn.acc (entered m) (adm1 m) c z 23 last_lt (ix2 t d)
    = Spec.out (aX m c) (aWg m c) (aBg m c) (aW1 m c) (aB1 m c) (aW2 m c) (aB2 m c) t d := by
  have u := inUse_le m c
  have a0 : pl0 m c t / 256 < inUse m c := at_used (at_p0 _ _ t)
  have a1 : pl1 m c t / 256 < inUse m c := at_used (at_p1 _ _ t)
  rw [acc_at m c hf z t d 23 last_lt, if_pos (by omega), if_pos (by omega)]
  unfold part0 part1 ch0 ch1 lgs Spec.out
  rw [lg_eq]

end Cert.Proof.Launch

end
-- ==== Proof.RefChoice.lean ====
/-
  The reference's routing. Its top-2 holds each token's two choices; written into a row of −∞ and put through a softmax
  they leave the two gates at the two choices and zero elsewhere.
-/
module

public import proofs.«01_k».proof.Proof.Gen.ReferenceIdeal.Run
public import proofs.«01_k».proof.Proof.Spec
public import proofs.«01_k».proof.Proof.Numbers
public import Idealize.ShloMosaic.Lib.Tactic.CleanTypes
public import Idealize.ShloMosaic.Lib.Routing.OpsSet

@[expose] public section

set_option maxRecDepth 16384

noncomputable section

namespace Cert.Proof.Ref

open Cert.ReferenceIdeal Cert.ReferenceIdeal.Gen Cert.ReferenceIdeal.Value
open Idealize.ShloMosaic
open Cert.Proof.Choice Cert.Proof.Numbers

/-! ## The two choices -/

/-- The two choices, in order. -/
def pick (f : Fin 8 → EReal) : Fin 2 → Fin 8 := ![first f, second f]

theorem along_eq (t : Fin 2048) (j k : Fin 8) : ((ix2 t j : S2048x8.Idx).along 1 k) = ix2 t k := by
  funext a
  fin_cases a <;> rfl

section
variable (x : FVec Ideal S2048x8 .f32) (t : Fin 2048) (hf : ∀ e, x (ix2 t e) ≠ ⊥)
include hf

theorem sorted_at (j : Fin 2) (j' : Fin 8) (hj : j'.val = j.val) :
    sortedFrom (fun k k' => FloatOps.cmpfTotal CmpDirection.gt (x ((ix2 t j' : S2048x8.Idx).along 1 k)) (x ((ix2 t j' : S2048x8.Idx).along 1 k')) == 1#1) j'
      = pick (fun e => x (ix2 t e)) j := by
  have hR : ∀ a b : Fin 8, (FloatOps.cmpfTotal CmpDirection.gt (x ((ix2 t j' : S2048x8.Idx).along 1 a)) (x ((ix2 t j' : S2048x8.Idx).along 1 b)) == 1#1)
      = decide (x (ix2 t b) < x (ix2 t a)) := fun a b => by
    rw [along_eq, along_eq]
    show (BitVec.ofBool (decide (x (ix2 t b) < x (ix2 t a))) == 1#1) = _
    by_cases h : x (ix2 t b) < x (ix2 t a)
    · rw [decide_eq_true h]; rfl
    · rw [decide_eq_false h]; rfl
  fin_cases j
  · obtain rfl : j' = 0 := Fin.ext hj
    exact sorted_zero (fun e => x (ix2 t e)) _ hR
  · obtain rfl : j' = 1 := Fin.ext hj
    exact sorted_one (fun e => x (ix2 t e)) hf _ hR

theorem values_at (j : Fin 2) : (Host.topK S2048x2 1 (FloatOps.cmpfTotal .gt) x sliceFits_S2048x8_S2048x2).1 (ix2 t j)
    = x (ix2 t (pick (fun e => x (ix2 t e)) j)) := by
  clean_types
  pointwise [Host.topK, Host.sort2]
  rw [along_eq]
  exact congrArg (fun k => x (ix2 t k)) (sorted_at x t hf j ⟨j.val, by omega⟩ rfl)

theorem places_at (j : Fin 2) : (Host.topK S2048x2 1 (FloatOps.cmpfTotal .gt) x sliceFits_S2048x8_S2048x2).2 (ix2 t j)
    = BitVec.ofNat 32 (pick (fun e => x (ix2 t e)) j).val := by
  clean_types
  pointwise [Host.topK, Host.sort2]
  rw [along_eq]
  exact congrArg (fun k : Fin 8 => BitVec.ofNat 32 k.val) (sorted_at x t hf j ⟨j.val, by omega⟩ rfl)
end

/-! ## The row kept -/

/-- What the scatter leaves of a row: the two choices' entries. -/
def kept (f : Fin 8 → EReal) (e : Fin 8) : EReal := if e = first f ∨ e = second f then f e else ⊥

theorem scatter_at (x : FVec Ideal S2048x8 .f32) (z : FVec Ideal S2048x8 .f32) (idx : IVec S2048x2x2 32) (upd : FVec Ideal S2048x2 .f32)
    (hz : ∀ t e, z (ix2 t e) = ⊥)
    (h0 : ∀ t j, idx (ix3 t j 0) = BitVec.ofNat 32 t.val)
    (h1 : ∀ t j, idx (ix3 t j 1) = BitVec.ofNat 32 (pick (fun e => x (ix2 t e)) j).val)
    (hu : ∀ t j, upd (ix2 t j) = x (ix2 t (pick (fun e => x (ix2 t e)) j))) (t : Fin 2048) (e : Fin 8) :
    Host.scatter scatter_S2048x8_S2048x2x2_S2048x2_n_01_01_2 (fun _ b => b) z idx upd (ix2 t e) = kept (fun e => x (ix2 t e)) e := by
  have lands : ∀ (a : Fin 2048) (b : Fin 2), scatter_S2048x8_S2048x2x2_S2048x2_n_01_01_2.resultIdx? (ix2 a b) idx = some (ix2 t e)
      ↔ a = t ∧ pick (fun e => x (ix2 a e)) b = e := fun a b => by
    refine (Routing.scatter_lands2 scatter_S2048x8_S2048x2x2_S2048x2_n_01_01_2 rfl rfl rfl idx a b t e).trans ?_
    rw [show idx (ValueIdx.ix3 a b 0) = _ from h0 a b, show idx (ValueIdx.ix3 a b 1) = _ from h1 a b,
      WordCmp.toInt_ofNat_of_lt (by omega), WordCmp.toInt_ofNat_of_lt (by omega)]
    constructor
    · rintro ⟨p, q⟩; exact ⟨Fin.ext (by exact_mod_cast p), Fin.ext (by exact_mod_cast q)⟩
    · rintro ⟨rfl, q⟩; exact ⟨rfl, by rw [q]⟩
  have ixe : ∀ k : S2048x2.Idx, ∃ (a : Fin 2048) (b : Fin 2), k = ix2 a b := fun k => ⟨k 0, k 1, by funext a; fin_cases a <;> rfl⟩
  unfold kept
  by_cases h : e = first (fun e => x (ix2 t e)) ∨ e = second (fun e => x (ix2 t e))
  · rw [if_pos h]
    obtain ⟨b, hb⟩ : ∃ b : Fin 2, pick (fun e => x (ix2 t e)) b = e := by
      rcases h with h | h
      · exact ⟨0, h.symm⟩
      · exact ⟨1, h.symm⟩
    refine Routing.scatter_set_hit _ z idx upd (ix2 t e) _ (fun k hk => ?_) (ix2 t b) ((lands t b).2 ⟨rfl, hb⟩)
    obtain ⟨a, b, rfl⟩ := ixe k
    obtain ⟨rfl, q⟩ := (lands a b).1 hk
    rw [hu, q]
  · rw [if_neg h, ← hz t e]
    refine Routing.scatter_set_miss _ z idx upd (ix2 t e) fun k hk => h ?_
    obtain ⟨a, b, rfl⟩ := ixe k
    obtain ⟨rfl, q⟩ := (lands a b).1 hk
    fin_cases b
    · exact Or.inl q.symm
    · exact Or.inr q.symm

/-! ## The softmax of the row kept -/

/-- The weight the softmax gives an expert. -/
def weight (f : Fin 8 → EReal) (e : Fin 8) : EReal :=
  if e = first f then Spec.gate0 f else if e = second f then Spec.gate1 f else 0

section
variable (f : Fin 8 → EReal) (g : Fin 8 → ℝ) (hg : ∀ e, f e = (g e : EReal))
include hg

theorem real_ne_bot (e : Fin 8) : f e ≠ ⊥ := by rw [hg]; exact EReal.coe_ne_bot _

theorem second_ne_first : second f ≠ first f := second_ne (real_ne_bot f g hg)

theorem kept_first : kept f (first f) = f (first f) := if_pos (Or.inl rfl)
theorem kept_second : kept f (second f) = f (second f) := if_pos (Or.inr rfl)

theorem first_kept : first (kept f) = first f := by
  refine first_eq fun e he => ?_
  rw [kept_first f g hg]
  by_cases h : e = second f
  · rw [h, kept_second f g hg, ← h]
    exact first_leads f e he
  · left
    have : kept f e = ⊥ := if_neg (fun o => o.elim he h)
    rw [this, hg]
    exact EReal.bot_lt_coe _

theorem largest : max ⊥ (Finset.univ.fold max ⊥ (kept f)) = f (first f) := by
  rw [bot_sup_eq, fold_max, first_kept f g hg, kept_first f g hg]

theorem ratio_real : Spec.ratio f = ((Real.exp (g (second f) - g (first f)) : ℝ) : EReal) := by
  unfold Spec.ratio
  rw [hg, hg, ← EReal.coe_sub]
  rfl

theorem exp_kept (e : Fin 8) : Ideal.exp (kept f e - f (first f))
    = (if e = first f then 1 else 0) + (if e = second f then Spec.ratio f else 0) := by
  by_cases h : e = first f
  · rw [h, kept_first f g hg, if_pos rfl, if_neg (second_ne_first f g hg).symm, add_zero, hg, ← EReal.coe_sub, sub_self]
    show ((Real.exp 0 : ℝ) : EReal) = 1
    rw [Real.exp_zero]
    rfl
  · by_cases h2 : e = second f
    · rw [h2, kept_second f g hg, if_neg (second_ne_first f g hg), if_pos rfl, zero_add]
      rfl
    · rw [if_neg h, if_neg h2, show kept f e = ⊥ from if_neg (fun o => o.elim h h2), hg, add_zero]
      rfl

theorem sum_exp : ∑ e, Ideal.exp (kept f e - f (first f)) = 1 + Spec.ratio f := by
  simp only [exp_kept f g hg]
  rw [Finset.sum_add_distrib, Finset.sum_ite_eq' , Finset.sum_ite_eq']
  simp

theorem softmax (e : Fin 8) : Ideal.div (Ideal.exp (kept f e - f (first f))) (1 + Spec.ratio f) = weight f e := by
  rw [exp_kept f g hg]
  unfold weight Spec.gate0 Spec.gate1
  by_cases h : e = first f
  · rw [if_pos h, if_pos h, if_neg (by rw [h]; exact (second_ne_first f g hg).symm), add_zero]
  · by_cases h2 : e = second f
    · rw [if_neg h, if_pos h2, if_neg h, if_pos h2, zero_add]
    · rw [if_neg h, if_neg h2, if_neg h, if_neg h2, add_zero, ratio_real f g hg]
      have hp : (0 : ℝ) < 1 + Real.exp (g (second f) - g (first f)) := by positivity
      rw [show (1 : EReal) + ((Real.exp (g (second f) - g (first f)) : ℝ) : EReal) = ((1 + Real.exp (g (second f) - g (first f)) : ℝ) : EReal) by
        rw [EReal.coe_add]; rfl]
      rw [Ideal.div_coe (ne_of_gt hp), zero_mul]

/-- A weighted sum over the experts has the two choices' terms alone. -/
theorem weighted (h : Fin 8 → EReal) : ∑ e, h e * weight f e = Spec.gate0 f * h (first f) + Spec.gate1 f * h (second f) := by
  have term : ∀ e, h e * weight f e = (if e = first f then Spec.gate0 f * h (first f) else 0)
      + (if e = second f then Spec.gate1 f * h (second f) else 0) := fun e => by
    unfold weight
    by_cases h1 : e = first f
    · rw [if_pos h1, if_pos h1, if_neg (by rw [h1]; exact (second_ne_first f g hg).symm), add_zero, h1, mul_comm]
    · by_cases h2 : e = second f
      · rw [if_neg h1, if_pos h2, if_neg h1, if_pos h2, zero_add, h2, mul_comm]
      · rw [if_neg h1, if_neg h2, if_neg h1, if_neg h2, add_zero, mul_zero]
  simp only [term]
  rw [Finset.sum_add_distrib, Finset.sum_ite_eq', Finset.sum_ite_eq']
  simp
end

end Cert.Proof.Ref

end
-- ==== Proof.RefValue.lean ====
/-
  What the reference computes: at each token and channel the specification, when the token's logits are real.
-/
module

public import proofs.«01_k».proof.Proof.RefChoice

@[expose] public section

set_option maxRecDepth 16384

noncomputable section

namespace Cert.Proof.Ref

open Cert.ReferenceIdeal Cert.ReferenceIdeal.Gen Cert.ReferenceIdeal.Value
open Idealize.ShloMosaic
open Cert.Proof.Choice Cert.Proof.Numbers

variable (V : Valuation τ sig (Elt Ideal))

/-- The program's arguments. -/
abbrev aX : Vec Ideal S1x2048x768 .f32 := V (Proc.devRef .tc main_arg0)
abbrev aWg : Vec Ideal S768x8 .f32 := V (Proc.devRef .tc main_arg1)
abbrev aBg : Vec Ideal S8 .f32 := V (Proc.devRef .tc main_arg2)
abbrev aW1 : Vec Ideal S8x768x3072 .f32 := V (Proc.devRef .tc main_arg3)
abbrev aB1 : Vec Ideal S8x3072 .f32 := V (Proc.devRef .tc main_arg4)
abbrev aW2 : Vec Ideal S8x3072x768 .f32 := V (Proc.devRef .tc main_arg5)
abbrev aB2 : Vec Ideal S8x768 .f32 := V (Proc.devRef .tc main_arg6)

/-- The logits of token `t`. -/
abbrev lgs (t : Fin 2048) : Fin 8 → EReal := Spec.logits (aX V) (aWg V) (aBg V) t

theorem v4_at (t : Fin 2048) (e : Fin 8) : res_main_v4 V (ix2 t e) = lgs V t e := by
  unfold lgs Spec.logits
  clean_types
  pointwise [res_main_v4, res_main_v0]

theorem row_eq (t : Fin 2048) : (fun e => res_main_v4 (F := Ideal) V (ix2 t e)) = lgs V t := funext fun e => v4_at V t e

theorem wrap_nat (n : ℕ) (h : n < 2 ^ 31) (a : BitVec 32) :
    Scalar.select (IntOp.cmpi .slt (BitVec.ofNat 32 n) 0#32) a (BitVec.ofNat 32 n) = BitVec.ofNat 32 n := by
  refine Routing.wrap_of_lt _ _ ?_
  rw [BitVec.toNat_ofNat, Nat.mod_eq_of_lt (by omega)]
  exact h

variable (hr : ∀ t e, ∃ r : ℝ, lgs V t e = (r : EReal))
include hr

theorem lgs_ne (t : Fin 2048) (e : Fin 8) : res_main_v4 (F := Ideal) V (ix2 t e) ≠ (⊥ : EReal) := by
  obtain ⟨r, h⟩ := hr t e
  rw [v4_at, h]
  exact EReal.coe_ne_bot r

theorem indices_at (t : Fin 2048) (j : Fin 2) : res_main_indices (F := Ideal) V (ix2 t j) = BitVec.ofNat 32 (pick (lgs V t) j).val := by
  unfold res_main_indices
  rw [places_at _ t (lgs_ne V hr t), row_eq]

theorem v22_at (t : Fin 2048) (e : Fin 8) : res_main_v22 (F := Ideal) V (ix2 t e) = kept (lgs V t) e := by
  unfold res_main_v22
  rw [← row_eq]
  refine scatter_at (res_main_v4 (F := Ideal) V) _ _ _ (fun s k => ?_) (fun s j => ?_) (fun s j => ?_) (fun s j => values_at _ s (lgs_ne V hr s) j) t e
  · clean_types
    pointwise []
    exact ofBits_bot
  · clean_types
    pointwise [res_main_v6]
    exact wrap_nat _ (by omega) _
  · clean_types
    pointwise []
    rw [indices_at V hr s j, row_eq]
    exact wrap_nat _ (by omega) _

theorem v29_at (t : Fin 2048) (e : Fin 8) : res_main_v29 (F := Ideal) V (ix2 t e) = Ideal.exp (kept (lgs V t) e - lgs V t (first (lgs V t))) := by
  choose g hg using hr t
  unfold res_main_v29
  clean_types
  pointwise []
  simp only [v22_at V hr]
  rw [ofBits_bot, ← largest (lgs V t) g hg]

theorem v33_at (t : Fin 2048) (e : Fin 8) : res_main_v33 (F := Ideal) V (ix2 t e) = weight (lgs V t) e := by
  choose g hg using hr t
  unfold res_main_v33
  clean_types
  pointwise []
  simp only [v29_at V hr]
  rw [sum_exp (lgs V t) g hg, softmax (lgs V t) g hg]

abbrev lay (e : Fin 8) (t : Fin 2048) (d : Fin 768) : EReal := Spec.expert (aX V) (aW1 V) (aB1 V) (aW2 V) (aB2 V) e t d

theorem v103_at (t : Fin 2048) (d : Fin 768) : res_main_v103 (F := Ideal) V (ix2 t d)
    = lay V 0 t d * weight (lgs V t) 0 + lay V 1 t d * weight (lgs V t) 1 + lay V 2 t d * weight (lgs V t) 2 := by
  unfold res_main_v103
  clean_types
  pointwise [res_main_v0]
  rw [v33_at V hr, v33_at V hr, v33_at V hr]
  rfl

theorem v172_at (t : Fin 2048) (d : Fin 768) : res_main_v172 (F := Ideal) V (ix2 t d)
    = lay V 0 t d * weight (lgs V t) 0 + lay V 1 t d * weight (lgs V t) 1 + lay V 2 t d * weight (lgs V t) 2
      + lay V 3 t d * weight (lgs V t) 3 + lay V 4 t d * weight (lgs V t) 4 + lay V 5 t d * weight (lgs V t) 5 := by
  unfold res_main_v172
  clean_types
  pointwise [res_main_v0]
  rw [v33_at V hr, v33_at V hr, v33_at V hr, v103_at V hr]
  rfl

/-- The result is the specification. -/
theorem result_at (t : Fin 2048) (d : Fin 768) : val4 (F := Ideal) V (Proc.devRef .tc main_v219) (ix3 0 t d)
    = Spec.out (aX V) (aWg V) (aBg V) (aW1 V) (aB1 V) (aW2 V) (aB2 V) t d := by
  have e : val4 (F := Ideal) V (Proc.devRef .tc main_v219) (ix3 0 t d)
      = ∑ k, lay V k t d * weight (lgs V t) k := by
    rw [val4_main_v219, Fin.sum_univ_eight]
    clean_types
    pointwise [res_main_v0]
    rw [v33_at V hr, v33_at V hr, v172_at V hr]
    rfl
  choose g hg using hr t
  rw [e]
  exact weighted (lgs V t) g hg (fun k => lay V k t d)

end Cert.Proof.Ref

end
-- ==== Proof.Finite.lean ====
/-
  The precondition read: the tokens, the router's weights and its biases are real numbers, and so is every logit.
-/
module

public import proofs.«01_k».proof.Pre_routing_finite
public import proofs.«01_k».proof.Proof.Spec
public import Idealize.ShloMosaic.Lib.ReduceAll

@[expose] public section

set_option maxRecDepth 16384

noncomputable section

namespace Cert.Proof.Finite

open Cert.Pre_routing_finite Idealize.ShloMosaic

/-- The shape relations the precondition states. -/
theorem facts : Cert.Pre_routing_finite.Facts where
  bcast_S_S1x2048x768 := by decide
  reducesTo_S1x2048x768_S_d0_1_2 := by decide
  h_S_ := by decide
  bcast_S_S768x8 := by decide
  reducesTo_S768x8_S_d0_1 := by decide
  bcast_S_S8 := by decide
  reducesTo_S8_S_d0 := by decide

theorem inf_word : Ideal.ofBits FTy.f32 0x7F800000#32 = ⊤ := by
  unfold Ideal.ofBits
  rfl

theorem real_of_lt (x : EReal) (h : FloatOps.cmpf (F := Ideal) (φ := .f32) .olt (FloatOps.absf x) (Ideal.ofBits FTy.f32 0x7F800000#32) = 1#1) :
    ∃ r : ℝ, x = (r : EReal) := by
  rw [inf_word] at h
  induction x using EReal.rec with
  | bot => exact absurd h (by simp [FloatOps.cmpf, FloatOps.absf, Ideal.cmp])
  | coe r => exact ⟨r, rfl⟩
  | top => exact absurd h (by simp [FloatOps.cmpf, FloatOps.absf, Ideal.cmp])

instance : Subsingleton S_.Idx := ⟨fun a b => funext fun k => k.elim0⟩

theorem real_of_pre (x : FVec Ideal S1x2048x768 .f32) (wg : FVec Ideal S768x8 .f32) (bg : FVec Ideal S8 .f32)
    (w1 : FVec Ideal S8x768x3072 .f32) (b1 : FVec Ideal S8x3072 .f32) (w2 : FVec Ideal S8x3072x768 .f32) (b2 : FVec Ideal S8x768 .f32)
    (h : @fn facts Ideal _ x wg bg w1 b1 w2 b2 = fun _ => 1#1) :
    (∀ i, ∃ r : ℝ, x i = (r : EReal)) ∧ (∀ i, ∃ r : ℝ, wg i = (r : EReal)) ∧ (∀ i, ∃ r : ℝ, bg i = (r : EReal)) := by
  letI := facts
  have h0 := congrFun h ix0
  obtain ⟨h1, h3⟩ := IntOp.andi_eq_one.1 h0
  obtain ⟨h1, h2⟩ := IntOp.andi_eq_one.1 h1
  refine ⟨fun i => ?_, fun i => ?_, fun i => ?_⟩
  · exact real_of_lt _ (Host.reduce_andi_all _ _ _ _ _ h1 i)
  · exact real_of_lt _ (Host.reduce_andi_all _ _ _ _ _ h2 i)
  · exact real_of_lt _ (Host.reduce_andi_all _ _ _ _ _ h3 i)

theorem sum_real {n : ℕ} (f : Fin n → EReal) (h : ∀ k, ∃ r : ℝ, f k = (r : EReal)) : ∃ r : ℝ, ∑ k, f k = (r : EReal) := by
  choose g hg using h
  refine ⟨∑ k, g k, ?_⟩
  rw [Finset.sum_congr rfl fun k _ => hg k]
  induction (Finset.univ : Finset (Fin n)) using Finset.induction_on with
  | empty => rfl
  | insert a s ha ih => rw [Finset.sum_insert ha, Finset.sum_insert ha, ih, EReal.coe_add]

theorem logits_real (x : FVec Ideal S1x2048x768 .f32) (wg : FVec Ideal S768x8 .f32) (bg : FVec Ideal S8 .f32)
    (hx : ∀ i, ∃ r : ℝ, x i = (r : EReal)) (hw : ∀ i, ∃ r : ℝ, wg i = (r : EReal)) (hb : ∀ i, ∃ r : ℝ, bg i = (r : EReal))
    (t : Fin 2048) (e : Fin 8) : ∃ r : ℝ, Spec.logits x wg bg t e = (r : EReal) := by
  obtain ⟨s, hs⟩ := sum_real (fun k : Fin 768 => x (ix3 0 t k) * wg (ix2 k e)) fun k => by
    obtain ⟨a, ha⟩ := hx (ix3 0 t k)
    obtain ⟨b, hb⟩ := hw (ix2 k e)
    exact ⟨a * b, by rw [ha, hb, EReal.coe_mul]⟩
  obtain ⟨b, hb⟩ := hb (ix1 e)
  refine ⟨s + b, ?_⟩
  unfold Spec.logits
  rw [hs, hb, EReal.coe_add]

end Cert.Proof.Finite

end
-- ==== Proof.Algebraic.lean ====
/-
  The value claim: over the extended reals, from real tokens and a real router, the kernel's result and the reference's
  are the specification's array.
-/
module

public import proofs.«01_k».proof.Proof.Frames
public import proofs.«01_k».proof.Proof.KernelValue
public import proofs.«01_k».proof.Proof.RefValue
public import proofs.«01_k».proof.Proof.Finite

@[expose] public section

set_option maxRecDepth 16384

noncomputable section

namespace Cert.Proof

open Idealize.ShloMosaic Idealize.ShloMosaic.TcCoe Idealize.SL.Sem

/-- An index of the result is a token and a channel. -/
theorem index_eq (i : (⟨3, ![1, 2048, 768]⟩ : Shape).Idx) : ∃ (t : Fin 2048) (d : Fin 768), i = ix3 0 t d :=
  ⟨i 1, i 2, by funext a; fin_cases a; exacts [Fin.ext (Nat.lt_one_iff.1 (i 0).isLt), rfl, rfl]⟩

section
open Cert.KernelIdeal Cert.KernelIdeal.Gen
variable (m : (ℓ : Loc nD τ sig) → Buf (Elt Ideal) ℓ) (c : Dev nD)

/-- The specification's array at the kernel's arguments. -/
def target : Vec Ideal S1x2048x768 .f32 := fun i =>
  Spec.out (Launch.aX m c) (Launch.aWg m c) (Launch.aBg m c) (Launch.aW1 m c) (Launch.aB1 m c) (Launch.aW2 m c) (Launch.aB2 m c) (i 1) (i 2)

theorem kernel_result (hr : ∀ t e, ∃ r : ℝ, Spec.logits (Launch.aX m c) (Launch.aWg m c) (Launch.aBg m c) t e = (r : EReal)) (z) :
    shapeCast S1x2048x768 (Ffn.acc (Launch.entered m) (Launch.adm1 m) c z 23 Ffn.last_lt) shapeCasts_S2048x768_S1x2048x768 = target m c := by
  have hf : ∀ t e, Launch.lgs m c t e ≠ ⊥ := fun t e => by
    obtain ⟨r, h⟩ := hr t e
    unfold Launch.lgs
    rw [Launch.lg_eq, h]
    exact EReal.coe_ne_bot r
  funext i
  obtain ⟨t, d, rfl⟩ := index_eq i
  refine Eq.trans ?_ (Launch.acc_last m c hf z t d)
  generalize Ffn.acc (Launch.entered m) (Launch.adm1 m) c z 23 Ffn.last_lt = y
  pointwise []
end

/-- The precondition makes the logits real. -/
theorem logits_of_pre (m : (ℓ : Loc Cert.KernelIdeal.nD Cert.KernelIdeal.τ Cert.KernelIdeal.sig) → Buf (Elt Ideal) ℓ)
    (h : Cert.Pre_KernelIdeal_routing_finite (hPre_routing_finite := Finite.facts) m) (c : Dev Cert.KernelIdeal.nD) (t : Fin 2048) (e : Fin 8) :
    ∃ r : ℝ, Spec.logits (Launch.aX m c) (Launch.aWg m c) (Launch.aBg m c) t e = (r : EReal) := by
  obtain ⟨hx, hw, hb⟩ := Finite.real_of_pre _ _ _ _ _ _ _ (h c)
  exact Finite.logits_real _ _ _ hx hw hb t e

theorem frame_ideal_pre : Cert.quiescent_KernelIdeal_pre_routing_finite (hKernelIdeal := Cert.KernelIdeal.Gen.facts) (hPre_routing_finite := Finite.facts) :=
  fun m g _ => frame_ideal m g trivial

theorem frame_reference_pre : Cert.quiescent_ReferenceIdeal_pre_routing_finite (hReferenceIdeal := Cert.ReferenceIdeal.Gen.facts) (hPre_routing_finite := Finite.facts) :=
  fun m g _ => frame_reference m g trivial

theorem algebraic : Cert.algebraic_KernelIdeal_ReferenceIdeal_pre_routing_finite (hKernelIdeal := Cert.KernelIdeal.Gen.facts)
    (hReferenceIdeal := Cert.ReferenceIdeal.Gen.facts) (hPre_routing_finite := Finite.facts) := fun m g m' g' hp he => by
  refine ⟨fun c => target m c, ?_, ?_⟩
  · refine (θ_run Cert.KernelIdeal.defs _ _).mono (fun r h c => ?_) (Launch.run_main (F := Ideal) m g)
    obtain ⟨hu, z, hz⟩ := h.1 c
    exact ⟨hz.trans (kernel_result m c (logits_of_pre m hp c) z), hu⟩
  · refine (θ_run Cert.ReferenceIdeal.defs _ _).mono (fun r h c => ⟨?_, (h c).2⟩) (Cert.ReferenceIdeal.Value.run (F := Ideal) m' g')
    refine (h c).1.trans ((Cert.ReferenceIdeal.Value.val4_main_v219 (StableHlo.launchContents m' c)).symm.trans ?_)
    obtain ⟨e0, e1, e2, e3, e4, e5, e6⟩ := he c
    have a0 : Ref.aX (StableHlo.launchContents m' c) = Launch.aX m c := e0
    have a1 : Ref.aWg (StableHlo.launchContents m' c) = Launch.aWg m c := e1
    have a2 : Ref.aBg (StableHlo.launchContents m' c) = Launch.aBg m c := e2
    have a3 : Ref.aW1 (StableHlo.launchContents m' c) = Launch.aW1 m c := e3
    have a4 : Ref.aB1 (StableHlo.launchContents m' c) = Launch.aB1 m c := e4
    have a5 : Ref.aW2 (StableHlo.launchContents m' c) = Launch.aW2 m c := e5
    have a6 : Ref.aB2 (StableHlo.launchContents m' c) = Launch.aB2 m c := e6
    have hr : ∀ t e, ∃ r : ℝ, Ref.lgs (StableHlo.launchContents m' c) t e = (r : EReal) := fun t e => by
      unfold Ref.lgs
      rw [a0, a1, a2]
      exact logits_of_pre m hp c t e
    funext i
    obtain ⟨t, d, rfl⟩ := index_eq i
    refine (Ref.result_at (StableHlo.launchContents m' c) hr t d).trans ?_
    rw [a0, a1, a2, a3, a4, a5, a6]
    rfl

end Cert.Proof

end
-- ==== Proof.lean ====
/- The certificate's claim, put together: the facts of each program, the frames and the value claim. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Frames
public import proofs.«01_k».proof.Proof.Algebraic

@[expose] public section

noncomputable section

namespace Cert.Proof

theorem claim : Cert.Claim := ⟨Cert.Kernel.Gen.facts, Cert.KernelIdeal.Gen.facts, Cert.ReferenceIdeal.Gen.facts, Finite.facts,
  frame_kernel, frame_ideal, frame_ideal_pre, frame_reference, frame_reference_pre, trivial, algebraic⟩

end Cert.Proof

end
